-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range_KernelIdeal [hPre_finite_and_in_range_KernelIdeal : Cert.Pre_finite_and_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range_ReferenceIdeal [hPre_finite_and_in_range_ReferenceIdeal : Cert.Pre_finite_and_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_in_range_KernelIdeal [hKernelIdeal : Cert.KernelIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_in_range_ReferenceIdeal [hReferenceIdeal : Cert.ReferenceIdeal.Facts] [hPre_finite_and_in_range_ReferenceIdeal : Cert.Pre_finite_and_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_and_in_range_KernelIdeal [hKernelIdeal : Cert.KernelIdeal.Facts] [hReferenceIdeal : Cert.ReferenceIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 8192]⟩ ⟨2, ![4096, 16384]⟩ (Layout.meshBlock [2, 2] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_in_range_KernelIdeal : Cert.Pre_finite_and_in_range_KernelIdeal.Facts) (hPre_finite_and_in_range_ReferenceIdeal : Cert.Pre_finite_and_in_range_ReferenceIdeal.Facts),
    quiescent_Kernel (hKernel := hKernel)
    ∧ quiescent_KernelIdeal (hKernelIdeal := hKernelIdeal)
    ∧ quiescent_KernelIdeal_pre_finite_and_in_range_KernelIdeal (hKernelIdeal := hKernelIdeal) (hPre_finite_and_in_range_KernelIdeal := hPre_finite_and_in_range_KernelIdeal)
    ∧ quiescent_ReferenceIdeal (hReferenceIdeal := hReferenceIdeal)
    ∧ quiescent_ReferenceIdeal_pre_finite_and_in_range_ReferenceIdeal (hReferenceIdeal := hReferenceIdeal) (hPre_finite_and_in_range_ReferenceIdeal := hPre_finite_and_in_range_ReferenceIdeal)
    ∧ preserves_Kernel_KernelIdeal
    ∧ algebraic_KernelIdeal_ReferenceIdeal_pre_finite_and_in_range_KernelIdeal (hKernelIdeal := hKernelIdeal) (hReferenceIdeal := hReferenceIdeal) (hPre_finite_and_in_range_KernelIdeal := hPre_finite_and_in_range_KernelIdeal)
-- ==== Pre_finite_and_in_range_KernelIdeal.lean ====
abbrev S2048x4096 : Shape := ⟨2, ![2048, 4096]⟩
abbrev S4096x8192 : Shape := ⟨2, ![4096, 8192]⟩
abbrev S2048 : Shape := ⟨1, ![2048]⟩
abbrev S_ : Shape := ⟨0, ![]⟩

class Facts : Prop where
  bcast_S_S2048x4096 : S_.BroadcastsInDim S2048x4096 (![] : Fin 0 → Fin S2048x4096.rank)
  bcast_S_S4096x8192 : S_.BroadcastsInDim S4096x8192 (![] : Fin 0 → Fin S4096x8192.rank)
  bcast_S_S2048 : S_.BroadcastsInDim S2048 (![] : Fin 0 → Fin S2048.rank)

variable [Facts]

def fn {F : FTy → Type} [FloatOps F] (main_arg0 : FVec F S2048x4096 .bf16) (main_arg1 : FVec F S4096x8192 .bf16) (main_arg2 : IVec S2048 32) : IVec S2048x4096 1 × IVec S4096x8192 1 × IVec S2048 1 :=
  let main_v0 : FVec F S2048x4096 .bf16 := Host.absf main_arg0
  let main_cst : FVec F S_ .bf16 := constant S_ .bf16 0x7F80#16
  let main_v1 : FVec F S2048x4096 .bf16 := broadcastInDim S2048x4096 ![] bcast_S_S2048x4096 main_cst
  let main_v2 : IVec S2048x4096 1 := cmpf .olt main_v0 main_v1
  let main_v3 : FVec F S4096x8192 .bf16 := Host.absf main_arg1
  let main_cst_0 : FVec F S_ .bf16 := constant S_ .bf16 0x7F80#16
  let main_v4 : FVec F S4096x8192 .bf16 := broadcastInDim S4096x8192 ![] bcast_S_S4096x8192 main_cst_0
  let main_v5 : IVec S4096x8192 1 := cmpf .olt main_v3 main_v4
  let main_c : IVec S_ 32 := constantI S_ 32 0#32
  let main_v6 : IVec S2048 32 := broadcastInDim S2048 ![] bcast_S_S2048 main_c
  let main_v7 : IVec S2048 1 := cmpi .sge main_arg2 main_v6
  let main_c_1 : IVec S_ 32 := constantI S_ 32 16384#32
  let main_v8 : IVec S2048 32 := broadcastInDim S2048 ![] bcast_S_S2048 main_c_1
  let main_v9 : IVec S2048 1 := cmpi .slt main_arg2 main_v8
  let main_v10 : IVec S2048 1 := andi main_v7 main_v9
  (main_v2, main_v5, main_v10)
-- ==== Pre_finite_and_in_range_ReferenceIdeal.lean ====
abbrev S2048x4096 : Shape := ⟨2, ![2048, 4096]⟩
abbrev S4096x16384 : Shape := ⟨2, ![4096, 16384]⟩
abbrev S2048 : Shape := ⟨1, ![2048]⟩
abbrev S_ : Shape := ⟨0, ![]⟩

class Facts : Prop where
  bcast_S_S2048x4096 : S_.BroadcastsInDim S2048x4096 (![] : Fin 0 → Fin S2048x4096.rank)
  bcast_S_S4096x16384 : S_.BroadcastsInDim S4096x16384 (![] : Fin 0 → Fin S4096x16384.rank)
  bcast_S_S2048 : S_.BroadcastsInDim S2048 (![] : Fin 0 → Fin S2048.rank)

variable [Facts]

def fn {F : FTy → Type} [FloatOps F] (main_arg0 : FVec F S2048x4096 .bf16) (main_arg1 : FVec F S4096x16384 .bf16) (main_arg2 : IVec S2048 32) : IVec S2048x4096 1 × IVec S4096x16384 1 × IVec S2048 1 :=
  let main_v0 : FVec F S2048x4096 .bf16 := Host.absf main_arg0
  let main_cst : FVec F S_ .bf16 := constant S_ .bf16 0x7F80#16
  let main_v1 : FVec F S2048x4096 .bf16 := broadcastInDim S2048x4096 ![] bcast_S_S2048x4096 main_cst
  let main_v2 : IVec S2048x4096 1 := cmpf .olt main_v0 main_v1
  let main_v3 : FVec F S4096x16384 .bf16 := Host.absf main_arg1
  let main_cst_0 : FVec F S_ .bf16 := constant S_ .bf16 0x7F80#16
  let main_v4 : FVec F S4096x16384 .bf16 := broadcastInDim S4096x16384 ![] bcast_S_S4096x16384 main_cst_0
  let main_v5 : IVec S4096x16384 1 := cmpf .olt main_v3 main_v4
  let main_c : IVec S_ 32 := constantI S_ 32 0#32
  let main_v6 : IVec S2048 32 := broadcastInDim S2048 ![] bcast_S_S2048 main_c
  let main_v7 : IVec S2048 1 := cmpi .sge main_arg2 main_v6
  let main_c_1 : IVec S_ 32 := constantI S_ 32 16384#32
  let main_v8 : IVec S2048 32 := broadcastInDim S2048 ![] bcast_S_S2048 main_c_1
  let main_v9 : IVec S2048 1 := cmpi .slt main_arg2 main_v8
  let main_v10 : IVec S2048 1 := andi main_v7 main_v9
  (main_v2, main_v5, main_v10)
-- ==== Kernel.lean ====
abbrev S2048x4096 : Shape := ⟨2, ![2048, 4096]⟩
abbrev S4096x8192 : Shape := ⟨2, ![4096, 8192]⟩
abbrev S2048 : Shape := ⟨1, ![2048]⟩
abbrev S2048x1 : Shape := ⟨2, ![2048, 1]⟩
abbrev S4096x512 : Shape := ⟨2, ![4096, 512]⟩
abbrev S2048x2 : Shape := ⟨2, ![2048, 2]⟩
abbrev S_ : Shape := ⟨0, ![]⟩
abbrev S2048x512 : Shape := ⟨2, ![2048, 512]⟩

abbrev nBuf : Space → Nat
  | .hbm => 6
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S4096x8192, .bf16⟩
  | .hbm, ⟨2, _⟩ => ⟨S2048, .i32⟩
  | .hbm, ⟨3, _⟩ => ⟨S2048x1, .i32⟩
  | .hbm, ⟨4, _⟩ => ⟨S2048x1, .f32⟩
  | .hbm, ⟨5, _⟩ => ⟨S2048, .f32⟩
  | .local _ .vmem, ⟨0, _⟩ => ⟨S2048x4096, .bf16⟩
  | .local _ .vmem, ⟨1, _⟩ => ⟨S4096x512, .bf16⟩
  | .local _ .vmem, ⟨2, _⟩ => ⟨S4096x512, .bf16⟩
  | .local _ .vmem, ⟨3, _⟩ => ⟨S2048x1, .i32⟩
  | .local _ .vmem, ⟨4, _⟩ => ⟨S2048x1, .f32⟩
  | .local _ .vmem, ⟨5, _⟩ => ⟨S2048x2, .f32⟩
  | .local _ .vmem, ⟨6, _⟩ => ⟨S2048x2, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev barrier0 : Sem sig := 0

abbrev nD : Nat := 4
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v37 : BitVec 1 := Scalar.cmpi .eq arg0 c15_i32
  let v38 : BitVec 32 := Scalar.extui v37
  let c0_i32_15 : BitVec 32 := 0#32
  let v39 : BitVec 1 := Scalar.cmpi .ne v38 c0_i32_15
  v39

def k0_dev1 (d0 : Dev nD) : Nat :=
  let c0_i32_19 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_18 : BitVec 32 := 2#32
  let v42 : BitVec 32 := Scalar.muli v2 c2_i32_18
  let v43 : BitVec 32 := Scalar.addi c0_i32_19 v42
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v40 : BitVec 32 := Scalar.subi c1_i32_16 v5
  let c1_i32_20 : BitVec 32 := 1#32
  let v44 : BitVec 32 := Scalar.muli v40 c1_i32_20
  let v45 : BitVec 32 := Scalar.addi v43 v44
  v45.toNat
def k0_dev2 (d0 : Dev nD) : Nat :=
  let c0_i32_23 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_22 : BitVec 32 := 2#32
  let v46 : BitVec 32 := Scalar.muli v2 c2_i32_22
  let v47 : BitVec 32 := Scalar.addi c0_i32_23 v46
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v40 : BitVec 32 := Scalar.subi c1_i32_16 v5
  let c1_i32_24 : BitVec 32 := 1#32
  let v48 : BitVec 32 := Scalar.muli v40 c1_i32_24
  let v49 : BitVec 32 := Scalar.addi v47 v48
  v49.toNat
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S2048x4096 : Shape := ⟨2, ![2048, 4096]⟩
abbrev S4096x16384 : Shape := ⟨2, ![4096, 16384]⟩
abbrev S2048 : Shape := ⟨1, ![2048]⟩
abbrev S2048x16384 : Shape := ⟨2, ![2048, 16384]⟩
abbrev S_ : Shape := ⟨0, ![]⟩
abbrev S2048x1 : Shape := ⟨2, ![2048, 1]⟩
abbrev S2048x2 : Shape := ⟨2, ![2048, 2]⟩

abbrev nBuf : Space → Nat
  | .hbm => 40
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x16384, .bf16⟩
  | .hbm, ⟨2, _⟩ => ⟨S2048, .i32⟩
  | .hbm, ⟨3, _⟩ => ⟨S2048x16384, .f32⟩
  | .hbm, ⟨4, _⟩ => ⟨S2048x16384, .bf16⟩
  | .hbm, ⟨5, _⟩ => ⟨S_, .bf16⟩
  | .hbm, ⟨6, _⟩ => ⟨S2048, .bf16⟩
  | .hbm, ⟨7, _⟩ => ⟨S2048x1, .bf16⟩
  | .hbm, ⟨8, _⟩ => ⟨S2048x16384, .bf16⟩
  | .hbm, ⟨9, _⟩ => ⟨S2048x16384, .bf16⟩
  | .hbm, ⟨10, _⟩ => ⟨S2048x16384, .bf16⟩
  | .hbm, ⟨11, _⟩ => ⟨S2048x16384, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S2048x1, .bf16⟩
  | .hbm, ⟨16, _⟩ => ⟨S2048x1, .bf16⟩
  | .hbm, ⟨17, _⟩ => ⟨S2048x1, .bf16⟩
  | .hbm, ⟨18, _⟩ => ⟨S2048, .bf16⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S2048x1, .i32⟩
  | .hbm, ⟨35, _⟩ => ⟨S2048x1, .i32⟩
  | .hbm, ⟨36, _⟩ => ⟨S2048x2, .i32⟩
  | .hbm, ⟨37, _⟩ => ⟨S2048, .bf16⟩
  | .hbm, ⟨38, _⟩ => ⟨S2048, .bf16⟩
  | .hbm, ⟨39, _⟩ => ⟨S2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Proof.KernelIdealSwap.lean ====
/-
# The exchange of the two accumulators: cells, duties, debts

After the last vocabulary block every device owns two sums per row, one over the exponentials and one over the
target logits of its own half of the vocabulary. It swaps them with the device that holds the other half: it says on
that device's barrier semaphore that its landing buffer may be written, waits for the same word, and copies. This
module fixes the three semaphore cells a device takes part in, what each unit on them carries, and what every device
owes when the program starts.
-/
module

public import proofs.«01_k».proof.Proof.Gen.KernelIdeal.Frame
public import proofs.«01_k».proof.Proof.Gen.KernelIdeal.Points
public import proofs.«01_k».proof.Proof.Gen.KernelIdeal.Skeleton
public import proofs.«01_k».proof.Proof.Gen.KernelIdeal.Launch
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.StableHlo
public import Idealize.ShloMosaic.Lib.Tactic
public import Idealize.ShloMosaic.PureOps

@[expose] public section

set_option maxRecDepth 16384

noncomputable section

namespace Cert.KernelIdeal.Swap

open Idealize Idealize.SL Idealize.SL.RA Idealize.SL.BI
open Idealize.SL.BI.BIBase Idealize.SL.BI.Laws Idealize.SL.ProofMode Idealize.SL.Sem
open Idealize.ShloMosaic Idealize.ShloMosaic.TcCoe Idealize.ShloMosaic.Rounds
open Idealize.ShloMosaic.Pipeline (Dat Cfg BodyObligation cellOf)
open Cert.KernelIdeal Cert.KernelIdeal.Gen

variable {F : FTy → Type} [FloatOps F]

attribute [local instance] Cert.KernelIdeal.Gen.facts

/-! ## The partner -/

/-- The device holding the other half of the vocabulary for the same row of the mesh. -/
def mate (c : Dev nD) : Dev nD := ⟨2 * (c.val / 2) + 1 - c.val % 2, by have := c.isLt; unfold nD at *; omega⟩

theorem mate_mate (c : Dev nD) : mate (mate c) = c := by revert c; decide

/-- Taking the partner, as a permutation of the mesh. -/
def mates : Dev nD ≃ Dev nD := ⟨mate, mate, mate_mate, mate_mate⟩

theorem mate_eq_iff (d c : Dev nD) : mate d = c ↔ d = mate c :=
  ⟨fun h => by rw [← h, mate_mate], fun h => by rw [h, mate_mate]⟩

/-! ## Ghost state -/

/-- Two copies of the rounds algebra: the pipeline's and the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## Cells -/

/-- The accumulator and the landing buffer of the exchange. -/
abbrev accM : Memref sig .tc .vmem S2048x2 .f32 := Memref.whole cc0_scratch0
abbrev landM : Memref sig .tc .vmem S2048x2 .f32 := Memref.whole cc0_scratch1

/-- The semaphores of the exchange: the barrier, the departure of the own copy, the arrival of the partner's. -/
abbrev lane : Fin 3 → SemLoc sig := fun
  | 0 => .reg barrier0
  | 1 => .dma cc0_scratch2.sem
  | 2 => .dma cc0_scratch3.sem

/-- Which of the three a semaphore is. -/
def laneOf (s : SemLoc sig) : Option (Fin 3) :=
  if s = lane 0 then some 0 else if s = lane 1 then some 1 else if s = lane 2 then some 2 else none

theorem lane_inj : Function.Injective lane := by decide +kernel

theorem laneOf_lane (k : Fin 3) : laneOf (lane k) = some k := by
  have h := lane_inj
  fin_cases k
  · exact if_pos rfl
  · unfold laneOf
    rw [if_neg fun e => absurd (h e) (by decide)]; exact if_pos rfl
  · unfold laneOf
    rw [if_neg fun e => absurd (h e) (by decide), if_neg fun e => absurd (h e) (by decide)]; exact if_pos rfl

/-- Device `c`'s cell of the `k`-th semaphore. -/
abbrev cell (c : Dev nD) (k : Fin 3) : GSem nD τ sig := ((c : Thread nD τ), lane k)

theorem cell_ne {c d : Dev nD} {k l : Fin 3} (h : k ≠ l) : cell c k ≠ cell d l :=
  fun e => h (lane_inj (congrArg Prod.snd e))

theorem cell_eq_iff {c d : Dev nD} {k : Fin 3} : cell c k = cell d k ↔ c = d :=
  ⟨fun e => congrArg (fun g : GSem nD τ sig => g.1.1) e, fun e => by rw [e]⟩

/-- The units one copy of the accumulator is worth. -/
def N : ℕ := (landM : Memref sig .tc .vmem S2048x2 .f32).view.dmaCredit
theorem N_pos : 0 < N := View.dmaCredit_pos _ (by decide)

/-- Leaving the accumulator or reaching the landing buffer, a copy counts the same. -/
theorem land_credit : (landM : Memref sig .tc .vmem S2048x2 .f32).view.dmaCredit = N := rfl
theorem acc_credit : (accM : Memref sig .tc .vmem S2048x2 .f32).view.dmaCredit = N := by decide +kernel

/-- What a round of the `k`-th cell counts to. -/
def units : Fin 3 → ℕ := fun | 0 => 1 | 1 => N | 2 => N

theorem units_one : units 1 = N := rfl
theorem units_two : units 2 = N := rfl

theorem units_pos (k : Fin 3) : 0 < units k := by
  fin_cases k
  · exact Nat.one_pos
  · exact N_pos
  · exact N_pos

/-! ## Buffers -/

/-- Device `c`'s accumulator, whole, at `f`. -/
abbrev accPts (c : Dev nD) (f : Buf (Elt F) ((c : Thread nD τ).loc cc0_scratch0)) : sProp 𝕄 :=
  ((c : Thread nD τ).loc cc0_scratch0) ↦{fullShare} f
/-- Device `c`'s landing buffer, whole, at `f`. -/
abbrev landPts (c : Dev nD) (f : Buf (Elt F) ((c : Thread nD τ).loc cc0_scratch1)) : sProp 𝕄 :=
  ((c : Thread nD τ).loc cc0_scratch1) ↦{fullShare} f

theorem acc_view (c : Dev nD) (f : Buf (Elt F) ((c : Thread nD τ).loc cc0_scratch0)) :
    (accM.view.loc (c : Thread nD τ) ↦[accM.view.set]{fullShare} f : sProp 𝕄) = accPts c f := by
  rw [show accM.view.set = Finset.univ from View.set_whole _]

theorem land_view (c : Dev nD) (f : Buf (Elt F) ((c : Thread nD τ).loc cc0_scratch1)) :
    (landM.view.loc (c : Thread nD τ) ↦[landM.view.set]{fullShare} f : sProp 𝕄) = landPts c f := by
  rw [show landM.view.set = Finset.univ from View.set_whole _]

/-- A copy of a whole accumulator into a whole landing buffer leaves the accumulator's contents there. -/
theorem landed_eq (c : Dev nD) (fd : Buf (Elt F) ((c : Thread nD τ).loc cc0_scratch1))
    (fs : (cc0_scratch0 : Ref sig .tc).ty.Contents (Elt F)) :
    landM.view.write (Elt F) fd (accM.view.read (Elt F) fs) Finset.univ = fs := by
  show (View.whole cc0_scratch1).write (Elt F) fd ((View.whole cc0_scratch0).read (Elt F) fs) Finset.univ = fs
  rw [View.read_whole]
  exact View.write_whole_univ _ _ _

/-! ## The schedule -/

section Schedule

/- `fin`: the final sums of every device, which the exchange moves. -/
variable (fin : Dev nD → Vec F S2048x2 .f32)

/-- What a unit on device `c`'s `k`-th cell carries: on the barrier the partner's landing buffer, with the partner's
    arrival cell open; on the departure cell the own accumulator back; on the arrival cell the landing buffer back,
    holding the partner's sums. -/
def goods (c : Dev nD) : Fin 3 → sProp 𝕄 := fun
  | 0 => iprop((∃ f, landPts (mate c) f) ∗ reached ER (cell (mate c) 2) 0)
  | 1 => accPts c (fin c)
  | 2 => landPts c (fin (mate c))

/-- One round, of one duty, on every cell of the exchange. -/
def plan : Rounds.Schedule (GSem nD τ sig) Unit 𝕄 where
  duties g r := if r = 0 ∧ g.1.2 = .tc ∧ (laneOf g.2).isSome then {()} else ∅
  unitless _ := False
  amount g _ _ := ((laneOf g.2).map units).getD 1
  payload g _ _ := ((laneOf g.2).map (goods fin g.1.1)).getD iprop(emp)
  amount_pos g _ _ _ := by
    cases h : laneOf g.2 with
    | none => exact Nat.one_pos
    | some k => exact units_pos k

instance plan_storable (g : GSem nD τ sig) (r : ℕ) (d : Unit) :
    BI.Storable (upEmb : UEmb _ 𝕄) ((plan fin).payload g r d) := by
  show BI.Storable upEmb (((laneOf g.2).map (goods fin g.1.1)).getD iprop(emp))
  cases laneOf g.2 with
  | none => show BI.Storable upEmb (iprop(emp) : sProp 𝕄); infer_instance
  | some k =>
    show BI.Storable upEmb (goods fin g.1.1 k)
    fin_cases k
    · show BI.Storable upEmb (iprop((∃ f, landPts (mate g.1.1) f) ∗ reached ER (cell (mate g.1.1) 2) 0) : sProp 𝕄)
      infer_instance
    · show BI.Storable upEmb (accPts g.1.1 (fin g.1.1) : sProp 𝕄); infer_instance
    · show BI.Storable upEmb (landPts g.1.1 (fin (mate g.1.1)) : sProp 𝕄); infer_instance

variable (c : Dev nD) (k : Fin 3)

theorem plan_duties : (plan fin).duties (cell c k) 0 = {()} := by
  dsimp only [plan]; exact if_pos ⟨rfl, rfl, by rw [laneOf_lane]; rfl⟩

theorem plan_duty (u : Unit) : u ∈ (plan fin).duties (cell c k) 0 := by
  rw [plan_duties]; exact Finset.mem_singleton_self _

theorem plan_over (g : GSem nD τ sig) : ∀ r, 0 + 1 ≤ r → (plan fin).duties g r = ∅ :=
  fun r hr => by dsimp only [plan]; exact if_neg fun h => by omega

theorem plan_amount (u : Unit) : (plan fin).amount (cell c k) 0 u = units k := by
  dsimp only [plan]; rw [laneOf_lane]; rfl

theorem plan_payload (u : Unit) : (plan fin).payload (cell c k) 0 u = goods fin c k := by
  dsimp only [plan]; rw [laneOf_lane]; rfl

theorem plan_expect : (plan fin).expect (cell c k) 0 = units k := by
  unfold Schedule.expect Schedule.amountOf
  rw [plan_duties, Finset.sum_singleton, plan_amount]

theorem plan_all : bigSep ((plan fin).duties (cell c k) 0 \ ∅) (fun u => (plan fin).payload (cell c k) 0 u)
    = goods fin c k := by
  rw [Finset.sdiff_empty, plan_duties, bigSep_singleton, plan_payload]

/-- Once its round is over, a cell's counter can be taken back, at zero. -/
theorem plan_close (κ : ℕ) (g : GSem nD τ sig) :
    iprop(cellInv ER (plan fin) κ g ∗ atPos ER g (0 + 1) ∅ 0) ⊢ (|={Set.univ}=> semVal g 0 : sProp 𝕄) :=
  Rounds.cell_close ER (plan fin) (Set.mem_univ κ) id (plan_over fin g)

end Schedule

/-! ## Debts at the start, and levels -/

/-- A device owes its partner the barrier unit and the units of its copy. -/
def debt (c : Dev nD) : CellTallies nD τ sig Unit :=
  tallyAt (cell (mate c) 2) () N + tallyAt (cell (mate c) 0) () 1

def L (g : GSem nD τ sig) : Finset Unit := if g.1.2 = .tc then {()} else ∅
theorem L_of_ne (g : GSem nD τ sig) (h : g.1.2 ≠ .tc) : L g = ∅ := if_neg h
theorem L_tc (c : Dev nD) (s : SemLoc sig) : L ((c : Thread nD τ), s) = {()} := if_pos rfl
theorem mem_L (c : Dev nD) (s : SemLoc sig) (u : Unit) : u ∈ L ((c : Thread nD τ), s) := by
  rw [L_tc]; exact Finset.mem_singleton_self _

/-- The barrier is waited for before the arrival; the pipeline's own semaphores come below both. -/
def lv (g : GSem nD τ sig) (_ : Unit) : ℕ :=
  if g.2 = lane 0 then 1 else if g.2 = lane 2 then 2 else 0

theorem lv_bar (c : Dev nD) (u : Unit) : lv (cell c 0) u = 1 := if_pos rfl
theorem lv_arr (c : Dev nD) (u : Unit) : lv (cell c 2) u = 2 :=
  (if_neg fun e : lane 2 = lane 0 => absurd (lane_inj e) (by decide)).trans (if_pos rfl)

theorem tallyAt_pos {g h : GSem nD τ sig} {n : ℕ} {u v : Unit} (hp : 0 < tallyAt h v n g u) : g = h := by
  rw [tallyAt_apply] at hp
  split at hp
  · next e => exact e.1
  · exact absurd hp (Nat.lt_irrefl 0)

theorem debt_pos {c : Dev nD} {g : GSem nD τ sig} {u : Unit} (h : 0 < debt c g u) :
    g = cell (mate c) 2 ∨ g = cell (mate c) 0 := by
  unfold debt at h
  rw [Pi.add_apply, Finsupp.add_apply] at h
  exact (Nat.add_pos_iff_pos_or_pos.mp h).imp tallyAt_pos tallyAt_pos

theorem debt_level {c : Dev nD} {g : GSem nD τ sig} {u : Unit} (h : 0 < debt c g u) : u ∈ L g ∧ 0 < lv g u := by
  rcases debt_pos h with rfl | rfl
  · exact ⟨mem_L _ _ _, by rw [lv_arr]; decide⟩
  · exact ⟨mem_L _ _ _, by rw [lv_bar]; decide⟩

/-- A device that still owes the copy may wait on its barrier. -/
theorem mayWait_barrier (c : Dev nD) :
    (levAts L lv : sProp 𝕄) ⊢ MayWait (c : Thread nD τ) (lane 0) () (tallyAt (cell (mate c) 2) () N) :=
  MayOwe.of_cut (L := L) (lev := lv) 1
    (fun p hp => by rw [Finset.mem_singleton.mp hp]; exact mem_L c _ _)
    (fun g u hg => by rw [tallyAt_pos hg]; exact mem_L _ _ _)
    (fun p hp => by rw [Finset.mem_singleton.mp hp]; exact le_of_eq (lv_bar c ()))
    (fun g u hg => by rw [tallyAt_pos hg, lv_arr]; decide)

theorem debt_at_barrier (d c : Dev nD) : debt d (cell c 0) () = if d = mate c then 1 else 0 := by
  unfold debt
  rw [Pi.add_apply, Finsupp.add_apply, tallyAt_ne_cell (cell_ne (by decide)), tallyAt_apply, Finsupp.zero_apply, Nat.zero_add]
  by_cases h : d = mate c
  · rw [if_pos h, if_pos ⟨by rw [h, mate_mate], rfl⟩]
  · rw [if_neg h, if_neg fun e => h ((mate_eq_iff d c).mp (cell_eq_iff.mp e.1).symm)]

theorem debt_at_arrival (d c : Dev nD) : debt d (cell c 2) () = if d = mate c then N else 0 := by
  unfold debt
  rw [Pi.add_apply, Finsupp.add_apply, tallyAt_apply, tallyAt_ne_cell (cell_ne (by decide)), Finsupp.zero_apply, Nat.add_zero]
  by_cases h : d = mate c
  · rw [if_pos h, if_pos ⟨by rw [h, mate_mate], rfl⟩]
  · rw [if_neg h, if_neg fun e => h ((mate_eq_iff d c).mp (cell_eq_iff.mp e.1).symm)]

/-- What all devices together owe at a cell that exactly one device owes `n` at. -/
theorem launch_at (c : Dev nD) (k : Fin 3) (n : ℕ) (h : ∀ d, debt d (cell c k) () = if d = mate c then n else 0) :
    tallyOn (cell c k) (launchCredit (Pipeline.owing debt) 0 (cell c k)) = (tallyAt (cell c k) () n : CellTallies nD τ sig Unit) := by
  unfold tallyAt
  refine congrArg _ (Finsupp.ext fun u => ?_)
  cases u
  rw [Pipeline.launchCredit_owing, Finsupp.single_eq_same, Finset.sum_congr rfl fun d _ => h d,
    Finset.sum_ite_eq' Finset.univ (mate c) fun _ => n, if_pos (Finset.mem_univ _)]

/-- The credit a device is dealt: one unit of its barrier and a copy's worth on its arrival cell. -/
theorem dealt (c : Dev nD) :
    (Pipeline.launchCred debt c : sProp 𝕄) ⊢ iprop(cred (tallyAt (cell c 0) () 1) ∗ cred (tallyAt (cell c 2) () N)) := by
  unfold Pipeline.launchCred
  rw [bigSep_univ_at _ (lane 0), launch_at c 0 1 fun d => debt_at_barrier d c]
  refine sep_mono_right ?_
  rw [← launch_at c 2 N fun d => debt_at_arrival d c]
  exact bigSep_elim (Finset.mem_erase.mpr ⟨fun e => absurd (lane_inj e) (by decide), Finset.mem_univ _⟩)

/-! ## What a device carries -/

section Carried

variable (fin : Dev nD → Vec F S2048x2 .f32) (K : GSem nD τ sig → ℕ)

/-- The cells a device opens: its own three, and its partner's barrier and arrival. -/
def cellsOf (c : Dev nD) : sProp 𝕄 :=
  iprop((cellInv ER (plan fin) (K (cell c 0)) (cell c 0) ∗ cellInv ER (plan fin) (K (cell c 1)) (cell c 1)
      ∗ cellInv ER (plan fin) (K (cell c 2)) (cell c 2))
    ∗ cellInv ER (plan fin) (K (cell (mate c) 0)) (cell (mate c) 0) ∗ cellInv ER (plan fin) (K (cell (mate c) 2)) (cell (mate c) 2))

instance cellsOf_persistent (c : Dev nD) : BI.Persistent (cellsOf fin K c) := by unfold cellsOf; infer_instance

/-- The duties a device pays: its partner's barrier and arrival, and its own departure. -/
def dues (c : Dev nD) : sProp 𝕄 :=
  iprop(dutyTok ER (cell (mate c) 0) 0 () ∗ dutyTok ER (cell c 1) 0 () ∗ dutyTok ER (cell (mate c) 2) 0 ())

/-- What a device carries to the kernel: its place on the barrier, the right to open the two copy cells, its duties. -/
def luggage (c : Dev nD) : sProp 𝕄 :=
  iprop(cellsOf fin K c ∗ reached ER (cell (mate c) 0) 0
    ∗ atPos ER (cell c 0) 0 ∅ 0 ∗ (openTok ER (cell c 1) ∗ openTok ER (cell c 2)) ∗ dues c)

/-- The same once the copy cells are open. -/
def unpacked (c : Dev nD) : sProp 𝕄 :=
  iprop(cellsOf fin K c ∗ (reached ER (cell (mate c) 0) 0 ∗ reached ER (cell c 1) 0 ∗ reached ER (cell c 2) 0)
    ∗ (atPos ER (cell c 0) 0 ∅ 0 ∗ atPos ER (cell c 1) 0 ∅ 0 ∗ atPos ER (cell c 2) 0 ∅ 0) ∗ dues c)

/-- The credit it waits with. -/
def credits (c : Dev nD) : sProp 𝕄 :=
  iprop(cred (tallyAt (cell c 0) () 1) ∗ cred (tallyAt (cell c 2) () N))

/-- The kernel's own two semaphores. -/
abbrev own2 : Fin 2 → SemLoc sig := fun | 0 => lane 1 | 1 => lane 2

theorem own2_zero (c : Dev nD) : (Pipeline.ownSems0 own2 c : sProp 𝕄) = iprop(semVal (cell c 1) 0 ∗ semVal (cell c 2) 0) :=
  BI.bigSep_fin_two _

def Tk (c : Dev nD) : sProp 𝕄 := iprop((∃ K, luggage fin K c) ∗ credits c)
def Xk (c : Dev nD) : sProp 𝕄 := iprop((∃ K, unpacked fin K c) ∗ credits c ∗ levAts L lv)
def Yk (c : Dev nD) : sProp 𝕄 := semVal (cell c 0) 0

/-- Entering the kernel opens the two copy cells. -/
theorem unpack (c : Dev nD) : iprop(Tk fin c ∗ Pipeline.ownSems0 own2 c ∗ levAts L lv) ⊢ (|={Set.univ}=> Xk fin c : sProp 𝕄) := by
  rw [own2_zero]
  unfold Tk Xk
  iintro ⟨⟨⟨%K, Hg⟩, Hcr⟩, ⟨Hs, Hv⟩, #Hlev⟩
  unfold luggage cellsOf
  icases Hg with ⟨⟨⟨#H0, #H1, #H2⟩, #H3, #H4⟩, #Hm, Hat, ⟨Ho1, Ho2⟩, Hd⟩
  imod (Rounds.cell_open ER (plan fin) (g := cell c 1) (Set.mem_univ (K (cell c 1)))) $$ [Ho1 Hs] with ⟨Hat1, #Hr1⟩
  · isplitr; · iexact H1
    isplitl [Ho1] <;> iassumption
  imod (Rounds.cell_open ER (plan fin) (g := cell c 2) (Set.mem_univ (K (cell c 2)))) $$ [Ho2 Hv] with ⟨Hat2, #Hr2⟩
  · isplitr; · iexact H2
    isplitl [Ho2] <;> iassumption
  imodintro
  isplitl [Hat Hat1 Hat2 Hd]
  · iexists K; unfold unpacked cellsOf
    isplitr
    · isplitr
      · isplitr; · iexact H0
        isplitr; · iexact H1
        iexact H2
      isplitr; · iexact H3
      iexact H4
    isplitr
    · isplitr; · iexact Hm
      isplitr; · iexact Hr1
      iexact Hr2
    isplitl [Hat Hat1 Hat2]
    · isplitl [Hat]; · iexact Hat
      isplitl [Hat1] <;> iassumption
    iexact Hd
  isplitl [Hcr]; · iexact Hcr
  iexact Hlev

end Carried

end Cert.KernelIdeal.Swap

end
-- ==== Proof.KernelIdealPoint.lean ====
/-
# One grid point

What the kernel body does at one vocabulary block, run against the buffers it holds: the accumulator moves from one
value to the next, and at the last block the two devices swap accumulators and the result column is written.
-/
module

public import proofs.«01_k».proof.Proof.KernelIdealSwap

@[expose] public section

set_option maxRecDepth 16384

noncomputable section

namespace Cert.KernelIdeal.Swap

open Idealize Idealize.SL Idealize.SL.RA Idealize.SL.BI
open Idealize.SL.BI.BIBase Idealize.SL.BI.Laws Idealize.SL.ProofMode Idealize.SL.Sem
open Idealize.ShloMosaic Idealize.ShloMosaic.TcCoe Idealize.ShloMosaic.Rounds
open Idealize.ShloMosaic.Pipeline (Dat Cfg BodyObligation cellOf)
open Cert.KernelIdeal Cert.KernelIdeal.Gen

variable {F : FTy → Type} [FloatOps F]

attribute [local instance] Cert.KernelIdeal.Gen.facts

local notation "𝕄" => MT nD τ sig Unit (Elt F) ℕ UU ℕ

abbrev 𝒱₀ : Variants := Variants.none

/-! ## Whole-buffer loads and stores -/

theorem zero2 : (![0, 0] : Fin 2 → Nat) = fun _ => 0 := funext fun a => by fin_cases a <;> rfl

section Access

variable {cs : CoreSpace} {s : Shape} {e : EltTy} (c : Dev nD) {M : Memref sig .tc cs s e} (hM : M.IsWhole)
  {off : Fin s.rank → Nat} (ho : off = fun _ => 0) {inb : ∀ a, off a + s.size a ≤ s.size a}

include hM ho in
/-- Loading all of an owned buffer reads what it holds. -/
theorem load_all {α : Type} (Q : α → sProp 𝕄) {q : PosShare TreeShare} {X : s.Idx → Elt F e} {hl : M.view.LoadsAt (Rect.unit off s.size inb).toLoadRect}
    {k : (s.Idx → Elt F e) → Prog (TpuEff nD τ sig (Elt F) Λ₀ .tc) α} :
    (owns (c : Thread nD τ) M q X : sProp 𝕄)
      ⊢ iprop((owns (c : Thread nD τ) M q X -∗ wp frame (wpE (defs₀ (F := F)) 𝒱₀ (c : Thread nD τ) none) Set.univ (k X) Q)
          -∗ wp frame (wpE (defs₀ (F := F)) 𝒱₀ (c : Thread nD τ) none) Set.univ
              (.op (.load M (Rect.unit off s.size inb).toLoadRect hl) k) Q) := by
  obtain ⟨b, hs, hsh, hel, hb⟩ := hM
  subst hsh; subst hel
  obtain ⟨sp, i, p⟩ := b
  dsimp only at hs; subst hs
  obtain rfl := eq_of_heq hb
  rw [owns_whole]
  iintro H Hk
  iapply (wp_load 𝒱₀ (c : Thread nD τ) none Set.univ (m := Memref.whole (⟨.core cs, i, p⟩ : Ref sig .tc)) (Finset.subset_univ _)) $$ H
  iintro H
  rw [Memref.readAt_unit_zero (Elt F) _ ho inb]
  iapply Hk; iexact H

include hM ho in
/-- Storing over all of an owned buffer leaves what was stored. -/
theorem store_all {α : Type} (Q : α → sProp 𝕄) {X w : s.Idx → Elt F e} {hx : (M.access (Rect.unit off s.size inb)).Stores Finset.univ}
    {hm : (Finset.univ : Finset s.Idx) = Finset.univ ∨ ∀ a, (Rect.unit off s.size inb).stride a = 1}
    {k : PUnit → Prog (TpuEff nD τ sig (Elt F) Λ₀ .tc) α} :
    (owns (c : Thread nD τ) M fullShare X : sProp 𝕄)
      ⊢ iprop((owns (c : Thread nD τ) M fullShare w -∗ wp frame (wpE (defs₀ (F := F)) 𝒱₀ (c : Thread nD τ) none) Set.univ (k ⟨⟩) Q)
          -∗ wp frame (wpE (defs₀ (F := F)) 𝒱₀ (c : Thread nD τ) none) Set.univ
              (.op (.store M (Rect.unit off s.size inb) w Finset.univ hx hm) k) Q) := by
  obtain ⟨b, hs, hsh, hel, hb⟩ := hM
  subst hsh; subst hel
  obtain ⟨sp, i, p⟩ := b
  dsimp only at hs; subst hs
  obtain rfl := eq_of_heq hb
  rw [owns_whole, owns_whole]
  iintro H Hk
  iapply (wp_store 𝒱₀ (c : Thread nD τ) none Set.univ (m := Memref.whole (⟨.core cs, i, p⟩ : Ref sig .tc)) (r := Rect.unit off _ inb) (Mk := Finset.univ) (Finset.subset_univ _)) $$ H
  iintro H
  rw [Memref.write_access_unit_zero_univ (Elt F) _ ho inb]
  iapply Hk; iexact H

end Access

theorem acc_owns (c : Dev nD) (f : (cc0_scratch0 : Ref sig .tc).ty.Contents (Elt F)) :
    (owns (c : Thread nD τ) accM fullShare f : sProp 𝕄) = accPts c f := owns_whole _ _ _ _
theorem land_owns (c : Dev nD) (f : (cc0_scratch1 : Ref sig .tc).ty.Contents (Elt F)) :
    (owns (c : Thread nD τ) landM fullShare f : sProp 𝕄) = landPts c f := owns_whole _ _ _ _

/-! ## The accumulator's step -/

/-- The test the body makes for the first block. -/
def firstWord (i : grid0.Coords) : BitVec 1 :=
  Scalar.cmpi .ne (Scalar.extui (Scalar.cmpi .eq (BitVec.ofNat 32 (i 0).val) 0#32) : BitVec 32) 0#32

/-- What the accumulator holds when a block's contribution is added: zeros at the first block. -/
def base (i : grid0.Coords) (a : Vec F S2048x2 .f32) : Vec F S2048x2 .f32 :=
  if firstWord i = 1#1 then k0_pay3 else a

/-- The accumulator after a block. -/
def step (i : grid0.Coords) (c : Dev nD) (x : Vec F S2048x4096 .bf16) (w : Vec F S4096x512 .bf16) (l : Vec F S2048x1 .i32)
    (a : Vec F S2048x2 .f32) : Vec F S2048x2 .f32 :=
  k0_pay1 (k0_pay4 i c x w l (base i a))

section Point

variable (i : grid0.Coords) (c : Dev nD)
  (M1 : Memref sig .tc .vmem S2048x4096 .bf16) (h1 : M1.IsWhole) (M2 : Memref sig .tc .vmem S4096x512 .bf16) (h2 : M2.IsWhole)
  (M3 : Memref sig .tc .vmem S2048x1 .i32) (h3 : M3.IsWhole) (M4 : Memref sig .tc .vmem S2048x1 .f32) (h4 : M4.IsWhole)
  (x : Vec F S2048x4096 .bf16) (w : Vec F S4096x512 .bf16) (l : Vec F S2048x1 .i32) (o : Vec F S2048x1 .f32) (a : Vec F S2048x2 .f32)

/-- The three input blocks, held. -/
def inputs : sProp 𝕄 :=
  iprop(owns (c : Thread nD τ) M1 fullShare x ∗ owns (c : Thread nD τ) M2 fullShare w ∗ owns (c : Thread nD τ) M3 fullShare l)

/-- The first part of the body, up to the sum that will be stored, before any continuation of it. -/
theorem part_run {α : Type} (Q : α → sProp 𝕄) (R : sProp 𝕄)
    (k : (Σ' (_ : BitVec 32) (_ : Dev nD) (_ : BitVec 32) (_ : BitVec 32) (_ : FVec F S2048x2 .f32), Vec F S2048x2 .f32)
      → Prog (TpuEff nD τ sig (Elt F) Λ₀ .tc) α)
    (hk : ∀ (p q r : BitVec 32), iprop(inputs c M1 M2 M3 x w l ∗ owns (c : Thread nD τ) accM fullShare (base i a) ∗ R)
      ⊢ wp frame (wpE (defs₀ (F := F)) 𝒱₀ (c : Thread nD τ) none) Set.univ
          (k ⟨p, c, q, r, k0_pay4 i c x w l (base i a), base i a⟩) Q) :
    iprop(inputs c M1 M2 M3 x w l ∗ owns (c : Thread nD τ) accM fullShare a ∗ R)
      ⊢ wp frame (wpE (defs₀ (F := F)) 𝒱₀ (c : Thread nD τ) none) Set.univ
          ((k0_part1 (F := F) i M1 h1 M2 h2 M3 h3 M4 h4 accM (Memref.isWhole_whole _) landM (Memref.isWhole_whole _) cc0_scratch2 cc0_scratch3) >>= k) Q := by
  have hA : accM.IsWhole := Memref.isWhole_whole _
  have rest (v : Vec F S2048x2 .f32) (hv : base i a = v) (p q r : BitVec 32) :
      iprop(inputs c M1 M2 M3 x w l ∗ owns (c : Thread nD τ) accM fullShare v ∗ R)
        ⊢ wp frame (wpE (defs₀ (F := F)) 𝒱₀ (c : Thread nD τ) none) Set.univ
          (Prog.op (.load M1 (Rect.unit (s := S2048x4096) ![0, 0] S2048x4096.size inb_S2048x4096_S2048x4096_0_0).toLoadRect (View.loadsAt_vmem h_S2048x4096)) fun v9 =>
           Prog.op (.load M2 (Rect.unit (s := S4096x512) ![0, 0] S4096x512.size inb_S4096x512_S4096x512_0_0).toLoadRect (View.loadsAt_vmem h_S4096x512)) fun v11 =>
           Prog.op (.load M3 (Rect.unit (s := S2048x1) ![0, 0] S2048x1.size inb_S2048x1_S2048x1_0_0).toLoadRect (View.loadsAt_vmem h_S2048x1)) fun v23 =>
           Prog.op (.load accM (Rect.unit (s := S2048x2) ![0, 0] S2048x2.size inb_S2048x2_S2048x2_0_0).toLoadRect (View.loadsAt_vmem h_S2048x2)) fun v31 =>
           Prog.op (.load accM (Rect.unit (s := S2048x2) ![0, 0] S2048x2.size inb_S2048x2_S2048x2_0_0).toLoadRect (View.loadsAt_vmem h_S2048x2)) fun v34 =>
           k ⟨p, c, q, r, k0_pay4 i c v9 v11 v23 v31, v34⟩) Q := by
    subst hv
    have hk' := hk p q r
    unfold inputs at hk' ⊢
    iintro ⟨⟨Hx, Hw, Hl⟩, Ha, HR⟩
    iapply (load_all c h1 zero2 Q) $$ Hx; iintro Hx
    iapply (load_all c h2 zero2 Q) $$ Hw; iintro Hw
    iapply (load_all c h3 zero2 Q) $$ Hl; iintro Hl
    iapply (load_all c hA zero2 Q) $$ Ha; iintro Ha
    iapply (load_all c hA zero2 Q) $$ Ha; iintro Ha
    iapply hk'
    isplitl [Hx Hw Hl]
    · isplitl [Hx]; · iexact Hx
      isplitl [Hw] <;> iassumption
    isplitl [Ha] <;> iassumption
  rw [k0_part1_eq_skeleton]; unfold k0_part1_skel
  simp only [Prog.lift, Prog.bind_op, Prog.bind_ret, Prog.pure_eq_ret, wp_deviceId]
  by_cases hf : firstWord i = 1#1
  · have hf' := hf; unfold firstWord at hf'
    rw [dif_pos hf']
    simp only [Prog.bind_op, Prog.bind_ret]
    iintro ⟨HI, Ha, HR⟩
    iapply (load_all c hA zero2 Q) $$ Ha; iintro Ha
    iapply (store_all c hA zero2 Q) $$ Ha; iintro Ha
    iapply (rest k0_pay3 (if_pos hf))
    isplitl [HI]; · iexact HI
    isplitl [Ha] <;> iassumption
  · have hf' := hf; unfold firstWord at hf'
    rw [dif_neg hf']
    simp only [Prog.bind_op, Prog.bind_ret]
    exact rest a (if_neg hf) _ _ _

/-- At every block but the last the body only moves the accumulator. -/
theorem body_early (hi : k0_cond2 i ≠ 1#1) (R : sProp 𝕄) (Kt : PUnit → sProp 𝕄)
    (hR : iprop(inputs c M1 M2 M3 x w l ∗ owns (c : Thread nD τ) accM fullShare (step i c x w l a) ∗ R) ⊢ Kt ⟨⟩) :
    iprop(inputs c M1 M2 M3 x w l ∗ owns (c : Thread nD τ) accM fullShare a ∗ R)
      ⊢ wp frame (wpE (defs₀ (F := F)) 𝒱₀ (c : Thread nD τ) none) Set.univ
          (cc0_body (F := F) i M1 h1 M2 h2 M3 h3 M4 h4 accM (Memref.isWhole_whole _) landM (Memref.isWhole_whole _) cc0_scratch2 cc0_scratch3) Kt := by
  have hA : accM.IsWhole := Memref.isWhole_whole _
  simp only [cc0_body_eq_skeleton]; unfold cc0_body_skel
  refine part_run i c M1 h1 M2 h2 M3 h3 M4 h4 x w l a Kt R _ fun p q r => ?_
  simp only [Prog.lift, Prog.bind_op, Prog.bind_ret, Prog.pure_eq_ret]
  rw [dif_neg hi]
  iintro ⟨HI, Ha, HR⟩
  iapply (store_all c hA zero2 Kt) $$ Ha; iintro Ha
  rw [wp_ret]; imodintro
  iapply hR
  isplitl [HI]; · iexact HI
  isplitl [Ha]; · unfold step; iexact Ha
  iexact HR

end Point

/-! ## The last block -/

theorem dev1_mate (c : Dev nD) (h : k0_dev1 c < nD) : (⟨k0_dev1 c, h⟩ : Dev nD) = mate c := Fin.ext (k0_dev1_eq c)
theorem dev2_mate (c : Dev nD) (h : k0_dev2 c < nD) : (⟨k0_dev2 c, h⟩ : Dev nD) = mate c := Fin.ext (k0_dev2_eq c)

section Last

variable (fin : Dev nD → Vec F S2048x2 .f32) (K : GSem nD τ sig → ℕ)

/-- The copy of the own sums into the partner's landing buffer, addressed to a device known to be the partner. -/
theorem send_mate (c n : Dev nD) (hn : n = mate c) {hsc : (landM : Memref sig (Dev.tc n : Thread nD τ).2.kind .vmem S2048x2 .f32).view.ref.isScScratch = false}
    {hsrc : (accM : Memref sig .tc .vmem S2048x2 .f32).view.WordExact} {hdst : (landM : Memref sig .tc .vmem S2048x2 .f32).view.WordExact}
    {hsem : DmaTarget.Typed .vmem (.dma cc0_scratch3.sem) (.remote (Dev.tc n : Thread nD τ) (landM : Memref sig .tc .vmem S2048x2 .f32) (.dma cc0_scratch2.sem) hsc)}
    {α : Type} (Q : α → sProp 𝕄) {k : PUnit → Prog (TpuEff nD τ sig (Elt F) Λ₀ .tc) α}
    (f : Buf (Elt F) ((mate c : Thread nD τ).loc cc0_scratch1)) (W : Waits sig Unit) :
    iprop(cellInv ER (plan fin) (K (cell c 1)) (cell c 1) ∗ cellInv ER (plan fin) (K (cell (mate c) 2)) (cell (mate c) 2)
        ∗ accPts c (fin c) ∗ landPts (mate c) f
        ∗ owes (c : Thread nD τ) (tallyAt (cell (mate c) 2) () N) W
        ∗ dutyTok ER (cell c 1) 0 () ∗ reached ER (cell c 1) 0
        ∗ dutyTok ER (cell (mate c) 2) 0 () ∗ reached ER (cell (mate c) 2) 0)
      ⊢ iprop(((cred (tallyAt (cell c 1) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma accM (.remote (Dev.tc n : Thread nD τ) landM (.dma cc0_scratch2.sem) hsc) (.dma cc0_scratch3.sem) hsrc hdst hsem) k) Q) := by
  subst hn
  have hs : (accM.view.loc (c : Thread nD τ) ↦[accM.view.set]{fullShare} fin c : sProp 𝕄) ⊢ (plan fin).payload (cell c 1) 0 () :=
    Entails.of_eq ((acc_view c (fin c)).trans (plan_payload fin c 1 ()).symm)
  have hd : (landM.view.loc (mate c : Thread nD τ) ↦[landM.view.set]{fullShare}
        (landM.view.write (Elt F) f (accM.view.read (Elt F) (fin c)) Finset.univ) : sProp 𝕄) ⊢ (plan fin).payload (cell (mate c) 2) 0 () := by
    refine Entails.of_eq (((land_view (mate c) _).trans (congrArg (landPts (mate c)) ?_)).trans (plan_payload fin (mate c) 2 ()).symm)
    rw [mate_mate]
    exact landed_eq (mate c) f (fin c)
  have h := Rounds.wp_send_pointsTo (defs := defs₀ (F := F)) (Γ := .empty) (k := k) (Q := Q) (hsc := hsc) (hsrc := hsrc) (hdst := hdst) (hsem := hsem)
    𝒱₀ ER (plan fin) (c : Thread nD τ) none (κ₁ := K (cell c 1)) (κ₂ := K (cell (mate c) 2))
    (plan_duty fin c 1 ()) (plan_duty fin (mate c) 2 ())
    () () N land_credit ((plan_amount fin c 1 ()).trans units_one) ((plan_amount fin (mate c) 2 ()).trans units_two) 0 (zero_add _).symm (W := W) hs hd
    (Es := Set.univ)
  rw [acc_view, land_view] at h
  exact h

variable (i : grid0.Coords) (c : Dev nD)
  (M1 : Memref sig .tc .vmem S2048x4096 .bf16) (h1 : M1.IsWhole) (M2 : Memref sig .tc .vmem S4096x512 .bf16) (h2 : M2.IsWhole)
  (M3 : Memref sig .tc .vmem S2048x1 .i32) (h3 : M3.IsWhole) (M4 : Memref sig .tc .vmem S2048x1 .f32) (h4 : M4.IsWhole)
  (x : Vec F S2048x4096 .bf16) (w : Vec F S4096x512 .bf16) (l : Vec F S2048x1 .i32) (o : Vec F S2048x1 .f32) (a : Vec F S2048x2 .f32)

/-- What the last block needs besides the inputs and the accumulator. -/
def lastPre (W : Waits sig Unit) : sProp 𝕄 :=
  iprop((unpacked fin K c ∗ credits c ∗ levAts L lv) ∗ (∃ f, landPts c f)
    ∗ owns (c : Thread nD τ) M4 fullShare o ∗ owes (c : Thread nD τ) (debt c) W)

/-- What it leaves: the three counters back at zero, the landing buffer with the partner's sums, the result column,
    nothing owed. -/
def lastPost : sProp 𝕄 :=
  iprop((semVal (cell c 0) 0 ∗ semVal (cell c 1) 0 ∗ semVal (cell c 2) 0) ∗ (∃ f, landPts c f)
    ∗ owns (c : Thread nD τ) M4 fullShare (k0_pay2 (fin c) (fin (mate c))) ∗ ∃ W, owes (c : Thread nD τ) (0 : CellTallies nD τ sig Unit) W)

set_option maxHeartbeats 800000 in
/-- At the last block the body moves the accumulator, swaps it with the partner's and writes the result. -/
theorem body_last (hi : k0_cond2 i = 1#1) (hfin : step i c x w l a = fin c) (W : Waits sig Unit) (R : sProp 𝕄) (Kt : PUnit → sProp 𝕄)
    (hR : iprop(inputs c M1 M2 M3 x w l ∗ owns (c : Thread nD τ) accM fullShare (fin c) ∗ lastPost fin c M4 ∗ R) ⊢ Kt ⟨⟩) :
    iprop(inputs c M1 M2 M3 x w l ∗ owns (c : Thread nD τ) accM fullShare a ∗ lastPre fin K c M4 o W ∗ R)
      ⊢ wp frame (wpE (defs₀ (F := F)) 𝒱₀ (c : Thread nD τ) none) Set.univ
          (cc0_body (F := F) i M1 h1 M2 h2 M3 h3 M4 h4 accM (Memref.isWhole_whole _) landM (Memref.isWhole_whole _) cc0_scratch2 cc0_scratch3) Kt := by
  have hA : accM.IsWhole := Memref.isWhole_whole _
  have hL : landM.IsWhole := Memref.isWhole_whole _
  simp only [cc0_body_eq_skeleton]; unfold cc0_body_skel
  refine part_run i c M1 h1 M2 h2 M3 h3 M4 h4 x w l a Kt iprop(lastPre fin K c M4 o W ∗ R) _ fun p q r => ?_
  simp only [Prog.lift, Prog.bind_op, Prog.bind_ret, Prog.pure_eq_ret]
  rw [dif_pos hi]
  simp only [semSignalWord, semWaitWord, Prog.lift, Prog.bind_op, Prog.bind_ret, Prog.pure_eq_ret]
  unfold lastPre unpacked cellsOf dues credits
  iintro ⟨HI, Ha, ⟨⟨⟨⟨⟨#Hb, #Hs, #Hv⟩, #Hbm, #Hvm⟩, ⟨#Hrm, #Hr1, #Hr2⟩, ⟨HatB, HatS, HatV⟩, HtB, HtS, HtV⟩, ⟨HcB, HcV⟩, #Hlev⟩, ⟨%f0, Hl⟩, Ho, HO⟩, HR⟩
  iapply (store_all c hA zero2 Kt) $$ Ha; iintro Ha
  ihave Ha := (show (owns (c : Thread nD τ) accM fullShare (k0_pay1 (k0_pay4 i c x w l (base i a))) : sProp 𝕄) ⊢ accPts c (fin c) from
    Entails.of_eq (by rw [← hfin, ← acc_owns]; rfl)) $$ Ha
  simp only [dev1_mate c]
  -- tell the partner that this device's landing buffer may be written
  unfold debt
  iapply (Rounds.wp_signal 𝒱₀ ER (plan fin) (c : Thread nD τ) none (dst := (mate c : Thread nD τ)) (sem := barrier0) (r := 0) (d := ()) (κ := K (cell (mate c) 0))
      (plan_duty fin (mate c) 0 ()) (plan_amount fin (mate c) 0 ()) () (tallyAt (cell (mate c) 2) () N) rfl)
    $$ [HO HtB Hl]
  · isplitr; · iexact Hbm
    isplitl [HO]; · iexact HO
    isplitl [HtB]; · iexact HtB
    isplitl [Hl]
    · iapply (Entails.of_eq (plan_payload fin (mate c) 0 ()).symm)
      unfold goods; rw [mate_mate]
      isplitl [Hl]; · iexists f0; iexact Hl
      iexact Hr2
    · iexact Hrm
  iintro HO
  -- hear the same from the partner
  iapply (Rounds.wp_wait_rest_token 𝒱₀ ER (plan fin) (c : Thread nD τ) none (κ := K (cell c 0))
      (wpE_semWait_eq 𝒱₀ (c : Thread nD τ) none Set.univ) (Set.mem_univ _) () (O := tallyAt (cell (mate c) 2) () N) (W := W) (R := 0) (m := 0) (T := ∅)
      ((Nat.zero_add 1).trans (plan_expect fin c 0).symm)) $$ [HcB HO HatB]
  · isplitr; · iexact Hb
    isplitl [HcB]; · iexact HcB
    isplitl [HO]; · iexact HO
    isplitr; · iapply (mayWait_barrier c); iexact Hlev
    iexact HatB
  iintro ⟨HO, HatB, -, Hpay⟩
  ihave Hp := (Entails.of_eq (plan_all fin c 0)) $$ Hpay
  unfold goods
  icases Hp with ⟨⟨%fn, Hln⟩, #Hrn⟩
  -- the copy
  iapply (send_mate fin K c _ (dev2_mate c _) Kt fn (insert (lane 0, ()) W)) $$ [Ha Hln HO HtS HtV]
  · isplitr; · iexact Hs
    isplitr; · iexact Hvm
    isplitl [Ha]; · iexact Ha
    isplitl [Hln]; · iexact Hln
    isplitl [HO]; · iexact HO
    isplitl [HtS]; · iexact HtS
    isplitr; · iexact Hr1
    isplitl [HtV]; · iexact HtV
    iexact Hrn
  iintro ⟨HcS, HO⟩
  -- it has left
  iapply (Rounds.wp_wait_rest_token 𝒱₀ ER (plan fin) (c : Thread nD τ) none (κ := K (cell c 1)) (sm := lane 1) (k' := N)
      (fun K => (wpE_waitDma2_eq 𝒱₀ (c : Thread nD τ) none Set.univ (src := landM) (dst := accM) K).trans (by rw [acc_credit])) (Set.mem_univ _) () (O := 0) (W := insert (lane 0, ()) W) (R := 0) (m := 0) (T := ∅)
      ((Nat.zero_add _).trans (plan_expect fin c 1).symm)) $$ [HcS HO HatS]
  · isplitr; · iexact Hs
    isplitl [HcS]; · iexact HcS
    isplitl [HO]; · iexact HO
    isplitr; · rw [MayWait_zero]; iempintro
    iexact HatS
  iintro ⟨HO, HatS, -, Hpay⟩
  ihave Ha := (Entails.of_eq (plan_all fin c 1)) $$ Hpay
  -- the partner's has arrived
  iapply (Rounds.wp_wait_rest_token 𝒱₀ ER (plan fin) (c : Thread nD τ) none (κ := K (cell c 2)) (sm := lane 2) (k' := N)
      (fun K => (wpE_waitDma2_eq 𝒱₀ (c : Thread nD τ) none Set.univ (src := accM) (dst := landM) K).trans (by rw [land_credit])) (Set.mem_univ _) () (O := 0)
      (W := insert (lane 1, ()) (insert (lane 0, ()) W)) (R := 0) (m := 0) (T := ∅)
      ((Nat.zero_add _).trans (plan_expect fin c 2).symm)) $$ [HcV HO HatV]
  · isplitr; · iexact Hv
    isplitl [HcV]; · iexact HcV
    isplitl [HO]; · iexact HO
    isplitr; · rw [MayWait_zero]; iempintro
    iexact HatV
  iintro ⟨HO, HatV, -, Hpay⟩
  ihave Hl := (Entails.of_eq (plan_all fin c 2)) $$ Hpay
  unfold goods
  imod (plan_close fin (K (cell c 0)) (cell c 0)) $$ [HatB] with HzB
  · isplitr; · iexact Hb
    iexact HatB
  imod (plan_close fin (K (cell c 1)) (cell c 1)) $$ [HatS] with HzS
  · isplitr; · iexact Hs
    iexact HatS
  imod (plan_close fin (K (cell c 2)) (cell c 2)) $$ [HatV] with HzV
  · isplitr; · iexact Hv
    iexact HatV
  -- the result
  ihave Ha := (Entails.of_eq (acc_owns c (fin c)).symm) $$ Ha
  ihave Hl := (Entails.of_eq (land_owns c (fin (mate c))).symm) $$ Hl
  iapply (load_all c hA zero2 Kt) $$ Ha; iintro Ha
  iapply (load_all c hL zero2 Kt) $$ Hl; iintro Hl
  iapply (load_all c h4 zero2 Kt) $$ Ho; iintro Ho
  iapply (store_all c h4 zero2 Kt) $$ Ho; iintro Ho
  rw [wp_ret]; imodintro
  iapply hR
  unfold lastPost
  isplitl [HI]; · iexact HI
  isplitl [Ha]; · iexact Ha
  isplitr [HR]
  · isplitl [HzB HzS HzV]
    · isplitl [HzB]; · iexact HzB
      isplitl [HzS] <;> iassumption
    isplitl [Hl]
    · iexists _; iapply (Entails.of_eq (land_owns c (fin (mate c)))); iexact Hl
    isplitl [Ho]; · iexact Ho
    iexists _; iexact HO
  iexact HR

end Last

end Cert.KernelIdeal.Swap

end
-- ==== Proof.KernelIdealGrid.lean ====
/-
# The grid

The accumulator from block to block, the kernel's data for the pipeline, and the obligation its body meets at every
point.
-/
module

public import proofs.«01_k».proof.Proof.KernelIdealPoint

@[expose] public section

set_option maxRecDepth 16384

noncomputable section

namespace Cert.KernelIdeal.Swap

open Idealize Idealize.SL Idealize.SL.RA Idealize.SL.BI
open Idealize.SL.BI.BIBase Idealize.SL.BI.Laws Idealize.SL.ProofMode Idealize.SL.Sem
open Idealize.ShloMosaic Idealize.ShloMosaic.TcCoe Idealize.ShloMosaic.Rounds
open Idealize.ShloMosaic.Pipeline (Dat Cfg BodyObligation cellOf)
open Cert.KernelIdeal Cert.KernelIdeal.Gen

variable {F : FTy → Type} [FloatOps F]

attribute [local instance] Cert.KernelIdeal.Gen.facts

local notation "𝕄" => MT nD τ sig Unit (Elt F) ℕ UU ℕ

variable (m : (ℓ : Loc nD τ sig) → Buf (Elt F) ℓ)

/-! ## Which point is first, which is last -/

theorem point_lt (t : Fin cfg0.N) : t.val < 16 := t.isLt.trans_eq N_0

theorem first_iff : ∀ t : Fin grid0.N, firstWord (grid0.coords t) = 1#1 ↔ t.val = 0 := by decide +kernel
theorem last_iff : ∀ t : Fin grid0.N, k0_cond2 (grid0.coords t) = 1#1 ↔ t.val = 15 := by decide +kernel

/-- At the first point the accumulator's old contents do not matter. -/
theorem step_first {t : Fin grid0.N} (h : t.val = 0) (c : Dev nD) (x : Vec F S2048x4096 .bf16) (w : Vec F S4096x512 .bf16)
    (l : Vec F S2048x1 .i32) (a a' : Vec F S2048x2 .f32) :
    step (grid0.coords t) c x w l a = step (grid0.coords t) c x w l a' := by
  unfold step base
  rw [if_pos ((first_iff t).mpr h), if_pos ((first_iff t).mpr h)]

/-! ## The accumulator -/

/-- What point `t` makes of the accumulator. -/
def move (c : Dev nD) (t : Fin cfg0.N) (a : Vec F S2048x2 .f32) : Vec F S2048x2 .f32 :=
  step (grid0.coords t) c (iblk m c 0 t) (iblk m c 1 t) (iblk m c 2 t) a

/-- The accumulator before point `n`. -/
def acc (c : Dev nD) : ℕ → Vec F S2048x2 .f32
  | 0 => k0_pay3
  | n + 1 => if h : n < cfg0.N then move m c ⟨n, h⟩ (acc c n) else acc c n

theorem acc_succ (c : Dev nD) (t : Fin cfg0.N) : acc m c (t.val + 1) = move m c t (acc m c t.val) := dif_pos t.isLt

/-- Before point `t` the accumulator need only hold `acc` if there was a point before. -/
theorem move_eq (c : Dev nD) (t : Fin cfg0.N) (f : Vec F S2048x2 .f32) (hf : t.val ≠ 0 → f = acc m c t.val) :
    move m c t f = acc m c (t.val + 1) := by
  rw [acc_succ]
  by_cases h : t.val = 0
  · exact step_first h c _ _ _ _ _
  · rw [hf h]

/-- Every device's sums after its last block. -/
def sums (c : Dev nD) : Vec F S2048x2 .f32 := acc m c 16

/-- The result column of a device. -/
def column (c : Dev nD) : Vec F S2048x1 .f32 := k0_pay2 (sums m c) (sums m (mate c))

/-! ## The pipeline's data -/

/-- Before the last point's exchange: the ghost state of the exchange, the accumulator, the landing buffer. -/
def during (c : Dev nD) (n : ℕ) : sProp 𝕄 :=
  iprop(Xk (sums m) c ∗ (∃ f, ⌜n ≠ 0 → f = acc m c n⌝ ∗ accPts c f) ∗ (∃ f, landPts c f) ∗ ∃ r, prngReg c r)

/-- After it: the counters at zero, both scratch buffers at something. -/
def finished (c : Dev nD) : sProp 𝕄 :=
  iprop((semVal (cell c 0) 0 ∗ semVal (cell c 1) 0 ∗ semVal (cell c 2) 0) ∗ (∃ f, accPts c f) ∗ (∃ f, landPts c f) ∗ ∃ r, prngReg c r)

/-- The data: each input's block stays in its buffer, the result buffer gets the result column. -/
def data (c : Dev nD) : Dat τ (Elt F) Unit ℕ UU ℕ cfg0 c where
  A w := V m c (Pipeline.arrRef spec0 w)
  after := fun
    | 0 => fun t => iblk m c 0 t
    | 1 => fun t => iblk m c 1 t
    | 2 => fun t => iblk m c 2 t
    | 3 => fun _ => column m c
    | ⟨_ + 4, h⟩ => absurd h (Nat.not_lt.2 (Nat.le_add_left _ _))
  Φ t := if t.val < 16 then during m c t.val else finished c
  q _ := fullShare
  owed t := if t.val < 16 then debt c else 0

variable (c : Dev nD)

theorem Φ_before (t : Fin cfg0.N) : (data m c).Φ t.castSucc = during m c t.val := by
  show (if t.castSucc.val < 16 then during m c t.castSucc.val else finished c) = _
  rw [if_pos (by rw [Fin.val_castSucc]; exact point_lt t), Fin.val_castSucc]

theorem Φ_after (t : Fin cfg0.N) (h : t.val ≠ 15) : (data m c).Φ t.succ = during m c (t.val + 1) := by
  have := point_lt t
  show (if t.succ.val < 16 then during m c t.succ.val else finished c) = _
  rw [if_pos (by rw [Fin.val_succ]; omega), Fin.val_succ]

theorem Φ_end (t : Fin (cfg0.N + 1)) (h : t.val = 16) : (data m c).Φ t = finished c := by
  show (if t.val < 16 then during m c t.val else finished c) = _
  rw [if_neg (by omega)]

theorem owed_early (t : Fin (cfg0.N + 1)) (h : t.val < 16) : (data m c).owed t = debt c := if_pos h
theorem owed_end (t : Fin (cfg0.N + 1)) (h : t.val = 16) : (data m c).owed t = 0 := if_neg (by omega)

theorem before_0 (t : Fin cfg0.N) (d) : (data m c).before 0 t d = iblk m c 0 t :=
  ((data m c).before_in_eq_fetched 0 rfl (fun _ => rfl) (fun _ _ _ => rfl) (fun t => by dsimp only [data]; unfold Dat.blockOf iblk; rfl) t d).trans
    (by unfold Dat.fetched Dat.blockOf iblk; rfl)
theorem before_1 (t : Fin cfg0.N) (d) : (data m c).before 1 t d = iblk m c 1 t :=
  ((data m c).before_in_eq_fetched 1 rfl (fun _ => rfl) (fun _ _ _ => rfl) (fun t => by dsimp only [data]; unfold Dat.blockOf iblk; rfl) t d).trans
    (by unfold Dat.fetched Dat.blockOf iblk; rfl)
theorem before_2 (t : Fin cfg0.N) (d) : (data m c).before 2 t d = iblk m c 2 t :=
  ((data m c).before_in_eq_fetched 2 rfl (fun _ => rfl) (fun _ _ _ => rfl) (fun t => by dsimp only [data]; unfold Dat.blockOf iblk; rfl) t d).trans
    (by unfold Dat.fetched Dat.blockOf iblk; rfl)

theorem after_0 (t : Fin cfg0.N) : (data m c).after 0 t = iblk m c 0 t := by dsimp only [data]
theorem after_1 (t : Fin cfg0.N) : (data m c).after 1 t = iblk m c 1 t := by dsimp only [data]
theorem after_2 (t : Fin cfg0.N) : (data m c).after 2 t = iblk m c 2 t := by dsimp only [data]
theorem after_3 (t : Fin cfg0.N) : (data m c).after 3 t = column m c := by dsimp only [data]

/-- What a device owes goes into the pipeline's account, -/
theorem owes_in (t : Fin (cfg0.N + 1)) (O : CellTallies nD τ sig Unit) (h : (data m c).owed t = O) (W : Waits sig Unit) :
    (owes (c : Thread nD τ) O W : sProp 𝕄) ⊢ (data m c).owesAt () t := by
  unfold Dat.owesAt Pipeline.owesWithin Dat.bound
  rw [h]
  iintro HO
  iexists W
  isplitr; · ipureintro; exact fun _ _ => Or.inl trivial
  iexact HO
/-- and comes out of it. -/
theorem owes_out (t : Fin (cfg0.N + 1)) (O : CellTallies nD τ sig Unit) (h : (data m c).owed t = O) :
    ((data m c).owesAt () t : sProp 𝕄) ⊢ iprop(∃ W, owes (c : Thread nD τ) O W) := by
  unfold Dat.owesAt Pipeline.owesWithin
  rw [h]
  iintro ⟨%W, -, HO⟩
  iexists W
  iexact HO

/-! ## The obligation -/

/-- What the body is handed at a point, -/
def given (t : Fin cfg0.N) : sProp 𝕄 :=
  iprop((data m c).Φ t.castSucc ∗ (data m c).owesAt () t.castSucc
    ∗ (∃ d, owns (c : Thread nD τ) (st0_0 t) fullShare ((data m c).before 0 t d))
    ∗ (∃ d, owns (c : Thread nD τ) (st0_1 t) fullShare ((data m c).before 1 t d))
    ∗ (∃ d, owns (c : Thread nD τ) (st0_2 t) fullShare ((data m c).before 2 t d))
    ∗ ∃ d, owns (c : Thread nD τ) (st0_3 t) fullShare ((data m c).before 3 t d))

/-- and what it hands back, the result buffer as `r` says. -/
def returned (t : Fin cfg0.N) (r : sProp 𝕄) : sProp 𝕄 :=
  iprop((data m c).Φ t.succ ∗ (data m c).owesAt () t.succ
    ∗ owns (c : Thread nD τ) (st0_0 t) fullShare ((data m c).after 0 t)
    ∗ owns (c : Thread nD τ) (st0_1 t) fullShare ((data m c).after 1 t)
    ∗ owns (c : Thread nD τ) (st0_2 t) fullShare ((data m c).after 2 t)
    ∗ r)

/-- A point that is not the last. -/
theorem early (t : Fin cfg0.N) (h : t.val ≠ 15) :
    given m c t ⊢ wp frame (wpE (defs₀ (F := F)) 𝒱₀ (c : Thread nD τ) none) Set.univ (bodyAt0 t) fun _ =>
      returned m c t (iprop(∃ d, owns (c : Thread nD τ) (st0_3 t) fullShare ((data m c).before 3 t d))) := by
  have ht : t.val < 16 := point_lt t
  have hlast : k0_cond2 (grid0.coords t) ≠ 1#1 := fun e => h ((last_iff t).mp e)
  unfold given returned
  rw [Φ_before, Φ_after m c t h, after_0, after_1, after_2]
  simp only [before_0, before_1, before_2]
  unfold during
  iintro ⟨⟨HX, ⟨%f, %hf, Ha⟩, Hl, Hp⟩, HO, ⟨%d0, H0⟩, ⟨%d1, H1⟩, ⟨%d2, H2⟩, H3⟩
  ihave HO := (owes_out m c _ (debt c) (owed_early m c _ (by rw [Fin.val_castSucc]; exact ht))) $$ HO
  icases HO with ⟨%W, HO⟩
  iapply (body_early (grid0.coords t) c _ _ _ _ _ _ _ _ (iblk m c 0 t) (iblk m c 1 t) (iblk m c 2 t) f hlast
    (iprop((Xk (sums m) c ∗ (∃ f, landPts c f) ∗ ∃ r, prngReg c r) ∗ owes (c : Thread nD τ) (debt c) W
      ∗ ∃ d, owns (c : Thread nD τ) (st0_3 t) fullShare ((data m c).before 3 t d))) _ (by
      unfold inputs
      rw [acc_owns]
      iintro ⟨⟨H0, H1, H2⟩, Ha, ⟨HX, Hl, Hp⟩, HO, H3⟩
      isplitl [HX Ha Hl Hp]
      · isplitl [HX]; · iexact HX
        isplitl [Ha]
        · iexists _
          isplitr; · ipureintro; exact fun _ => move_eq m c t f hf
          iexact Ha
        isplitl [Hl] <;> iassumption
      isplitl [HO]
      · iapply (owes_in m c _ (debt c) (owed_early m c _ (by rw [Fin.val_succ]; omega)) W); iexact HO
      isplitl [H0]; · iexact H0
      isplitl [H1]; · iexact H1
      isplitl [H2]; · iexact H2
      iexact H3))
  unfold inputs
  rw [acc_owns]
  isplitl [H0 H1 H2]
  · isplitl [H0]; · iexact H0
    isplitl [H1] <;> iassumption
  isplitl [Ha]; · iexact Ha
  isplitl [HX Hl Hp]
  · isplitl [HX]; · iexact HX
    isplitl [Hl] <;> iassumption
  isplitl [HO]; · iexact HO
  iexact H3

/-- The last point. -/
theorem late (t : Fin cfg0.N) (h : t.val = 15) :
    given m c t ⊢ wp frame (wpE (defs₀ (F := F)) 𝒱₀ (c : Thread nD τ) none) Set.univ (bodyAt0 t) fun _ =>
      returned m c t (owns (c : Thread nD τ) (st0_3 t) fullShare ((data m c).after 3 t)) := by
  have ht : t.val < 16 := by omega
  have hlast : k0_cond2 (grid0.coords t) = 1#1 := (last_iff t).mpr h
  unfold given returned
  rw [Φ_before, Φ_end m c t.succ (by rw [Fin.val_succ, h]), after_0, after_1, after_2, after_3]
  simp only [before_0, before_1, before_2]
  unfold during Xk
  iintro ⟨⟨⟨⟨%K, HK⟩, Hcr, Hlev⟩, ⟨%f, %hf, Ha⟩, Hl, Hp⟩, HO, ⟨%d0, H0⟩, ⟨%d1, H1⟩, ⟨%d2, H2⟩, ⟨%d3, H3⟩⟩
  ihave HO := (owes_out m c _ (debt c) (owed_early m c _ (by rw [Fin.val_castSucc]; exact ht))) $$ HO
  icases HO with ⟨%W, HO⟩
  have hfin : move m c t f = sums m c := by rw [move_eq m c t f hf, h]; rfl
  iapply (body_last (sums m) K (grid0.coords t) c _ _ _ _ _ _ _ _ (iblk m c 0 t) (iblk m c 1 t) (iblk m c 2 t)
    ((data m c).before 3 t d3) f hlast hfin W (iprop(∃ r, prngReg c r)) _ (by
      unfold inputs lastPost finished
      rw [acc_owns]
      iintro ⟨⟨H0, H1, H2⟩, Ha, ⟨Hz, Hl, H3, ⟨%W', HO⟩⟩, Hp⟩
      isplitl [Hz Ha Hl Hp]
      · isplitl [Hz]; · iexact Hz
        isplitl [Ha]; · iexists _; iexact Ha
        isplitl [Hl] <;> iassumption
      isplitl [HO]
      · iapply (owes_in m c _ 0 (owed_end m c _ (by rw [Fin.val_succ, h])) W'); iexact HO
      isplitl [H0]; · iexact H0
      isplitl [H1]; · iexact H1
      isplitl [H2]; · iexact H2
      unfold column; iexact H3))
  unfold inputs lastPre
  rw [acc_owns]
  isplitl [H0 H1 H2]
  · isplitl [H0]; · iexact H0
    isplitl [H1] <;> iassumption
  isplitl [Ha]; · iexact Ha
  isplitl [HK Hcr Hlev Hl H3 HO]
  · isplitl [HK Hcr Hlev]
    · isplitl [HK]; · iexact HK
      isplitl [Hcr] <;> iassumption
    isplitl [Hl]; · iexact Hl
    isplitl [H3]; · iexact H3
    iexact HO
  iexact Hp

/-- The result buffer is left alone at every point but the last. -/
theorem idle_result (t : Fin cfg0.N) : cfg0.idle 3 (cfg0.grid.coords t) = !(decide (t.val = 15)) := by
  show (!(k0_cond2 (grid0.coords t) == 1#1)) = _
  by_cases h : t.val = 15
  · rw [(last_iff t).mpr h, decide_eq_true h]; rfl
  · rw [decide_eq_false h, beq_eq_false_iff_ne.mpr fun e => h ((last_iff t).mp e)]

/-- The body table's row is the body as the points spell it. -/
theorem body_row (t : Fin cfg0.N) : defs₀ (F := F) .tc cfg0.body (cfg0.bodyArgs t (cfg0.slots t)) = bodyAt0 t := by
  unfold defs₀; rw [Defs.onTc_tc]

/-- What is asked of the result buffer after a point. -/
def resultAfter (t : Fin cfg0.N) : sProp 𝕄 :=
  match cfg0.idle 3 (cfg0.grid.coords t) with
  | true =>
    match (cfg0.win 3).flush t with
    | false => iprop(∃ d, owns (c : Thread nD τ) (st0_3 t) fullShare ((data m c).before 3 t d))
    | true => owns (c : Thread nD τ) (st0_3 t) fullShare ((data m c).after 3 t)
  | false => owns (c : Thread nD τ) (st0_3 t) fullShare ((data m c).after 3 t)

/-- Any point. -/
theorem point (t : Fin cfg0.N) :
    given m c t ⊢ wp frame (wpE (defs₀ (F := F)) 𝒱₀ (c : Thread nD τ) none) Set.univ (bodyAt0 t) fun _ =>
      returned m c t (resultAfter m c t) := by
  unfold resultAfter
  by_cases h : t.val = 15
  · rw [idle_result, decide_eq_true h]
    exact late m c t h
  · have hf : (cfg0.win 3).flush t = false := by
      rw [Bool.eq_false_iff]; intro e
      have := (flush0_3 t).mp e
      have := point_lt t; omega
    rw [idle_result, decide_eq_false h, hf]
    exact early m c t h

/-- The body meets the pipeline's obligation at every point. -/
theorem obligation : BodyObligation (data m c) (defs₀ (F := F)) 𝒱₀ () Set.univ := fun t => by
  rw [bigSep_W0, bigSep_W0, body_row]
  exact triple_restated (point m c t) rfl .rfl fun _ => .rfl

end Cert.KernelIdeal.Swap

end
-- ==== Proof.KernelIdealRun.lean ====
/-
# The run

The kernel's call as a region that talks across devices, the host lines around it, the launch that deals every device
its part of the exchange, and what the whole program leaves: the arguments as they were, the result column reshaped,
every counter at zero.
-/
module

public import proofs.«01_k».proof.Proof.KernelIdealGrid
public import Idealize.ShloMosaic.Lib.Quiescent

@[expose] public section

set_option maxRecDepth 16384

noncomputable section

namespace Cert.KernelIdeal.Swap

open Idealize Idealize.SL Idealize.SL.RA Idealize.SL.BI
open Idealize.SL.BI.BIBase Idealize.SL.BI.Laws Idealize.SL.ProofMode Idealize.SL.Sem
open Idealize.ShloMosaic Idealize.ShloMosaic.TcCoe Idealize.ShloMosaic.Rounds
open Idealize.ShloMosaic.Pipeline (Dat Cfg BodyObligation cellOf)
open Cert.KernelIdeal Cert.KernelIdeal.Gen

variable {F : FTy → Type} [FloatOps F]

attribute [local instance] Cert.KernelIdeal.Gen.facts

local notation "𝕄" => MT nD τ sig Unit (Elt F) ℕ UU ℕ

variable (m : (ℓ : Loc nD τ sig) → Buf (Elt F) ℓ) (ρ : Dev nD → PrngReg)

/-! ## The region -/

abbrev adm : (p : Fin 1) → (pcfgs (F := F) p).Adm := fun p => (cfgs p).toPCfg_adm

def pdats : (p : Fin 1) → (c : Dev nD) → Dat τ (Elt F) Unit ℕ UU ℕ (Pipeline.pin (pcfgs (F := F)) adm p) c :=
  fun _ c => data m c

/-- Every buffer outside the kernel. -/
abbrev outer : Finset (DevRef τ sig) := Pipeline.ucRefs τ sig
/-- The windows' arrays. -/
abbrev arrays : Finset (DevRef τ sig) := Pipeline.arrRefs (τ := τ) spec0

theorem arrays_sub : arrays ⊆ outer := Pipeline.arrRefs_sub_ucRefs spec0 winFacts0.arr_unscoped

/-- The buffers after the region: the result array written, the rest as before. -/
def V1 (c : Dev nD) : Valuation τ sig (Elt F) :=
  Function.update (V0 m c) (Proc.devRef .tc main_v2) ((data m c).arrAt 3 cfg0.N)

theorem V1_of_ne (c : Dev nD) (b : DevRef τ sig) (h : b ≠ Proc.devRef .tc main_v2) : V1 m c b = V0 m c b :=
  Function.update_of_ne h _ _

theorem V1_result (c : Dev nD) : V1 m c (Proc.devRef .tc main_v2) = (data m c).arrAt 3 cfg0.N := Function.update_self _ _ _

/-- An input array is never written, the result array by the write-backs. -/
theorem arrays_after (c : Dev nD) : ∀ w : Fin cfg0.W, (data m c).arrAt w cfg0.N = V1 m c (Proc.devRef .tc (Pipeline.arrRef spec0 w))
  | 0 => ((data m c).arrAt_in 0 rfl _).trans (V1_of_ne m c (Proc.devRef .tc main_arg0) (StableHlo.devRef_ne_of_ne (by decide))).symm
  | 1 => ((data m c).arrAt_in 1 rfl _).trans (V1_of_ne m c (Proc.devRef .tc main_arg1) (StableHlo.devRef_ne_of_ne (by decide))).symm
  | 2 => ((data m c).arrAt_in 2 rfl _).trans (V1_of_ne m c (Proc.devRef .tc main_v1) (StableHlo.devRef_ne_of_ne (by decide))).symm
  | 3 => (V1_result m c).symm
  | ⟨_ + 4, h⟩ => absurd h (Nat.not_lt.2 (Nat.le_add_left _ _))

theorem result_in_arrays : Proc.devRef .tc main_v2 ∈ arrays :=
  Finset.mem_map_of_mem _ (Finset.mem_image.mpr ⟨3, Finset.mem_univ _, rfl⟩)

theorem rest_kept (c : Dev nD) : ∀ b ∈ (outer \ arrays) \ ∅, V1 m c b = V0 m c b := fun b hb =>
  V1_of_ne m c b fun e => (Finset.mem_sdiff.mp (Finset.mem_sdiff.mp hb).1).2 (e ▸ result_in_arrays)

theorem own2_facts : Pipeline.OwnSemFacts spec0 own2 := by decide +kernel

theorem held_none (c : Dev nD) (W : Valuation τ sig (Elt F)) : (StableHlo.held (c.tc : Thread nD τ) ∅ W : sProp 𝕄) = BI.emp := by
  unfold StableHlo.held; exact BI.bigSep_empty

theorem entering (c : Dev nD) :
    iprop(Pipeline.scopedRest (Pipeline.pin (pcfgs (F := F)) adm 0).spec c ∗ (∃ r, prngReg c r)
      ∗ StableHlo.held (c.tc : Thread nD τ) ∅ (V0 m c) ∗ Xk (sums m) c) ⊢ (pdats m 0 c).Φ 0 := by
  rw [show (pdats m 0 c).Φ 0 = during m c 0 from Φ_before m c ⟨0, by decide⟩, held_none,
    show (Pipeline.scopedRest (Pipeline.pin (pcfgs (F := F)) adm 0).spec c : sProp 𝕄)
      = iprop((∃ f, accPts c f) ∗ ∃ f, landPts c f) from scopedRest0_eq c]
  unfold during
  iintro ⟨⟨⟨%f, Ha⟩, Hl⟩, Hp, -, HX⟩
  isplitl [HX]; · iexact HX
  isplitl [Ha]
  · iexists f
    isplitr; · ipureintro; exact fun h => absurd rfl h
    iexact Ha
  isplitl [Hl] <;> iassumption

theorem leaving (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V1 m c) ∗ Pipeline.ownSems0 own2 c ∗ Yk c) := by
  rw [show (pdats m 0 c).Φ (Fin.last (Pipeline.pin (pcfgs (F := F)) adm 0).N) = finished c from Φ_end m c _ N_0, held_none, own2_zero,
    show (Pipeline.scopedRest (Pipeline.pin (pcfgs (F := F)) adm 0).spec c : sProp 𝕄)
      = iprop((∃ f, accPts c f) ∗ ∃ f, landPts c f) from scopedRest0_eq c]
  unfold finished Yk
  iintro ⟨⟨H0, H1, H2⟩, Ha, Hl, Hp⟩
  isplitl [Ha Hl]; · isplitl [Ha] <;> iassumption
  isplitl [Hp]; · iexact Hp
  isplitr; · iempintro
  isplitl [H1 H2]; · isplitl [H1] <;> iassumption
  iexact H0

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The staging semaphores are none of the exchange's. -/
theorem staging_low (c : Dev nD) (w : Fin 4) (s : Fin (win0 w).nbuf) : lv ((c : Thread nD τ), .dma ((win0 w).sem s)) () ≤ 0 := by
  have h : ∀ (w : Fin 4) (s : Fin (win0 w).nbuf), (SemLoc.dma ((win0 w).sem s) : SemLoc sig) ≠ lane 0 ∧ SemLoc.dma ((win0 w).sem s) ≠ lane 2 := by
    decide +kernel
  unfold lv
  rw [if_neg (h w s).1, if_neg (h w s).2]

theorem levels : Pipeline.LevelCutOwed (pcfgs (F := F)) adm (pdats m) () L lv 0 (fun _ => 0) where
  hι c w s := mem_L _ _ _
  hιb c w s := staging_low c w s
  hD c t g i h := by
    by_cases ht : t.val < 16
    · rw [show (pdats m 0 c).owed t = debt c from owed_early m c t ht] at h
      exact debt_level h
    · rw [show (pdats m 0 c).owed t = 0 from if_neg ht] at h
      exact absurd h (Nat.lt_irrefl 0)

set_option backward.isDefEq.respectTransparency.types false in
/-- The kernel's call. -/
def region : Pipeline.RegionSeg (pcfgs (F := F)) adm (pdats m) () defs₀ 𝒱₀ L lv 0 :=
  Pipeline.RegionSeg.ofTalk (pcfgs (F := F)) adm (pdats m) () defs₀ 𝒱₀ L lv 0 own2 own2_facts
    ∅ (outer \ arrays) (Finset.empty_subset _) kit rfl (fun c => (obligation m c).loose)
    (fun _ => 0) debt (fun c => (owed_early m c 0 (by decide)).trans (zero_add _).symm) (fun c => owed_end m c _ N_0) (fun _ => rfl)
    (fun c w => by unfold Dat.share; split <;> rfl)
    (V0 m) (V1 m) (rest_kept m)
    (Tk (sums m)) Yk (Xk (sums m)) Yk (unpack (sums m)) (entering m) (leaving m)
    (fun c => by iintro H; imodintro; iexact H)
    (fun _ => 0) (levels m) (fun _ => iprop(emp))
    (fun c w => rfl) (fun c w => arrays_after m c w)

/-! ## The segments -/

/-- What rides beside the buffers before the call. -/
def rides (c : Dev nD) : sProp 𝕄 :=
  iprop(Tk (sums m) c ∗ (∃ r, prngReg c r) ∗ ∃ W, owes (c : Thread nD τ) (debt c) W)
/-- What rides beside them after it. -/
def rides' (c : Dev nD) : sProp 𝕄 :=
  iprop(semVal (cell c 0) 0 ∗ ∃ W, owes (c : Thread nD τ) (0 : CellTallies nD τ sig Unit) W)

theorem ops0_outer : ∀ op ∈ (hostOps0 : List (HloOp τ sig (Elt F))), op.bufs ⊆ outer := fun op h =>
  Pipeline.sub_ucRefs op ((List.forall_iff_forall_mem.mp hostOps0_sub) op h)
theorem ops1_outer : ∀ op ∈ (hostOps1 : List (HloOp τ sig (Elt F))), op.bufs ⊆ outer := fun op h =>
  Pipeline.sub_ucRefs op ((List.forall_iff_forall_mem.mp hostOps1_sub) op h)

/-- The labels made a column. -/
def before : Pipeline.HostSeg (Name := ℕ) (U := UU) (pcfgs (F := F)) defs₀ 𝒱₀ L lv :=
  Pipeline.HostSeg.ofOps _ _ _ _ _ outer hostOps0 ops0_outer (List.forall_iff_forall_mem.mp hostOps0_fresh) (fun c b => m (c, b)) (rides m)
/-- The result column made a vector. -/
def afterwards : Pipeline.HostSeg (Name := ℕ) (U := UU) (pcfgs (F := F)) defs₀ 𝒱₀ L lv :=
  Pipeline.HostSeg.ofOps _ _ _ _ _ outer hostOps1 ops1_outer (List.forall_iff_forall_mem.mp hostOps1_fresh) (V1 m) rides'

/-- The buffers at the end. -/
def V2 (c : Dev nD) : Valuation τ sig (Elt F) := StableHlo.after hostOps1 (V1 m c)

theorem into_region (c : Dev nD) : (before m).post c ⊢ (region m).pre c := by
  show iprop(StableHlo.held (c.tc : Thread nD τ) outer (V0 m c) ∗ rides m c)
    ⊢ iprop(StableHlo.held (c.tc : Thread nD τ) arrays (V0 m c) ∗ (∃ r, prngReg c r)
      ∗ (StableHlo.held (c.tc : Thread nD τ) (outer \ arrays) (V0 m c) ∗ emp) ∗ Tk (sums m) c ∗ ∃ Wd, owes (c : Thread nD τ) (0 + debt c) Wd)
  rw [StableHlo.held_sub_split (c.tc : Thread nD τ) arrays_sub, zero_add]
  unfold rides
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem out_of_region (c : Dev nD) : (region m).post c ⊢ (afterwards m).pre c := by
  show iprop(StableHlo.held (c.tc : Thread nD τ) arrays (V1 m c) ∗ (∃ r, prngReg c r)
      ∗ (StableHlo.held (c.tc : Thread nD τ) (outer \ arrays) (V1 m c) ∗ emp) ∗ Yk c ∗ ∃ Wd, owes (c : Thread nD τ) (0 : CellTallies nD τ sig Unit) Wd)
    ⊢ iprop(StableHlo.held (c.tc : Thread nD τ) outer (V1 m c) ∗ rides' c)
  rw [StableHlo.held_sub_split (c.tc : Thread nD τ) arrays_sub (V1 m c)]
  unfold rides' Yk
  iintro ⟨Ha, -, ⟨Hr, -⟩, Hz, HO⟩
  isplitl [Ha Hr]; · isplitl [Ha] <;> iassumption
  isplitl [Hz]; · iexact Hz
  iexact HO

/-- The program as its three segments. -/
def segments : List (Pipeline.Seg (pcfgs (F := F)) adm (pdats m) () defs₀ 𝒱₀ L lv) :=
  [.host (before m), .region (region m), .host (afterwards m)]

/-! ## The launch -/

/-- The cells whose counters exist from the start, and those that come with the kernel. -/
def barAt : Dev nD ↪ GSem nD τ sig := ⟨fun c => cell c 0, fun _ _ h => cell_eq_iff.mp h⟩
def copyAt : Dev nD × Fin 2 ↪ GSem nD τ sig :=
  ⟨fun ck => ((ck.1 : Thread nD τ), own2 ck.2), fun _ _ h =>
    Prod.ext (congrArg (fun g : GSem nD τ sig => g.1.1) h)
      ((by decide +kernel : Function.Injective own2) (congrArg Prod.snd h))⟩
def bars : Finset (GSem nD τ sig) := Finset.univ.map barAt
def copies : Finset (GSem nD τ sig) := Finset.univ.map copyAt

/-- One duty token for each of the three cells of each device. -/
def tickets : Finset (GSem nD τ sig × ℕ × Unit) :=
  Finset.univ.map ⟨fun ck : Dev nD × Fin 3 => (cell ck.1 ck.2, 0, ()), fun _ _ h =>
    Prod.ext (congrArg (fun t : GSem nD τ sig × ℕ × Unit => t.1.1.1) h)
      (lane_inj (congrArg (fun t : GSem nD τ sig × ℕ × Unit => t.1.2) h))⟩

theorem bars_copies : Disjoint bars copies := by
  rw [Finset.disjoint_left]
  rintro g h₁ h₂
  obtain ⟨c, -, rfl⟩ := Finset.mem_map.mp h₁
  obtain ⟨ck, -, h⟩ := Finset.mem_map.mp h₂
  exact (by decide +kernel : ∀ k : Fin 2, own2 k ≠ lane 0) ck.2 (congrArg Prod.snd h)

theorem mem_bar (c : Dev nD) : cell c 0 ∈ bars ∪ copies :=
  Finset.mem_union_left _ (Finset.mem_map_of_mem barAt (Finset.mem_univ c))
theorem mem_depart (c : Dev nD) : cell c 1 ∈ bars ∪ copies :=
  Finset.mem_union_right _ (Finset.mem_map_of_mem copyAt (Finset.mem_univ (c, (0 : Fin 2))))
theorem mem_arrive (c : Dev nD) : cell c 2 ∈ bars ∪ copies :=
  Finset.mem_union_right _ (Finset.mem_map_of_mem copyAt (Finset.mem_univ (c, (1 : Fin 2))))

/-- The ghost state at the start. -/
def u₀ : UU :=
  (initOf (Pipeline.cells (Pipeline.pin (pcfgs (F := F)) adm) cellOf_inj) (Pipeline.launchToks (Pipeline.pin (pcfgs (F := F)) adm) cellOf_inj),
    launchOf bars copies tickets)

/-- The exchange's part of it, kept by one device until it is dealt. -/
def hoard (c : Dev nD) : sProp 𝕄 := if c = 0 then BI.own (ER (launchOf bars copies tickets)) else iprop(emp)

theorem hoard_all : bigSep Finset.univ (hoard (F := F)) = (BI.own (ER (launchOf bars copies tickets)) : sProp 𝕄) := by
  rw [bigSep_univ_at _ (0 : Dev nD), bigSep_congr (s := Finset.univ.erase (0 : Dev nD)) (Ψ := fun _ => (BI.emp : sProp 𝕄))
      fun c hc => by unfold hoard; rw [if_neg (Finset.ne_of_mem_erase hc)]; rfl, BI.bigSep_emp_const]
  unfold hoard
  rw [if_pos rfl]
  exact BI.equiv_iff.mp sep_emp

/-- What all devices know: every cell's invariant, and that every barrier stands at its first round. -/
def known (κ : GSem nD τ sig → ℕ) : sProp 𝕄 :=
  iprop((bigSep (bars ∪ copies) fun g => cellInv ER (plan (sums m)) (κ g) g) ∗ bigSep bars fun g => reached ER g 0)

instance known_persistent (κ : GSem nD τ sig → ℕ) : BI.Persistent (known m κ) := by unfold known; infer_instance

theorem known_cell (κ : GSem nD τ sig → ℕ) {g : GSem nD τ sig} (hg : g ∈ bars ∪ copies) :
    (bigSep (bars ∪ copies) fun g => (cellInv ER (plan (sums m)) (κ g) g : sProp 𝕄)) ⊢ cellInv ER (plan (sums m)) (κ g) g :=
  bigSep_elim hg

theorem known_reached (c : Dev nD) : (bigSep bars fun g => (reached ER g 0 : sProp 𝕄)) ⊢ reached ER (cell c 0) 0 :=
  bigSep_elim (Finset.mem_map_of_mem barAt (Finset.mem_univ c))

/-- What each device gets for itself. -/
def share (c : Dev nD) : sProp 𝕄 :=
  iprop(atPos ER (cell c 0) 0 ∅ 0 ∗ (openTok ER (cell c 1) ∗ openTok ER (cell c 2)) ∗ dues c)

theorem pack (κ : GSem nD τ sig → ℕ) (c : Dev nD) : iprop(known m κ ∗ share c) ⊢ iprop(∃ K, luggage (sums m) K c) := by
  unfold known share
  iintro ⟨⟨#HI, #HR⟩, Hrest⟩
  iexists κ
  unfold luggage cellsOf
  isplitr
  · isplitr
    · isplitr; · iapply (known_cell m κ (mem_bar c)); iexact HI
      isplitr; · iapply (known_cell m κ (mem_depart c)); iexact HI
      iapply (known_cell m κ (mem_arrive c)); iexact HI
    isplitr; · iapply (known_cell m κ (mem_bar (mate c))); iexact HI
    iapply (known_cell m κ (mem_arrive (mate c))); iexact HI
  isplitr; · iapply (known_reached (F := F) (mate c)); iexact HR
  iexact Hrest

theorem three {M : Type} [URA M] (Φ : Fin 3 → sProp M) : bigSep Finset.univ Φ = iprop(Φ 0 ∗ Φ 1 ∗ Φ 2) :=
  bigSep_univ_eq_bigSepL [(0 : Fin 3), 1, 2] (by decide) (by decide) Φ

/-- The tickets, each handed to the device that pays the duty. -/
theorem tickets_dealt : bigSep tickets (fun x => (dutyTok ER x.1 x.2.1 x.2.2 : sProp 𝕄)) ⊢ bigSep Finset.univ fun c : Dev nD => dues c := by
  have h : bigSep tickets (fun x => (dutyTok ER x.1 x.2.1 x.2.2 : sProp 𝕄))
      = bigSep Finset.univ fun c : Dev nD => iprop(dutyTok ER (cell c 0) 0 () ∗ dutyTok ER (cell c 1) 0 () ∗ dutyTok ER (cell c 2) 0 ()) := by
    unfold tickets
    rw [bigSep_map, bigSep_univ_prod]
    exact bigSep_congr fun c _ => three _
  rw [h]
  unfold dues
  rw [bigSep_sep', bigSep_sep', bigSep_sep', bigSep_sep', bigSep_univ_equiv mates (fun c : Dev nD => (dutyTok ER (cell c 0) 0 () : sProp 𝕄)),
    bigSep_univ_equiv mates (fun c : Dev nD => (dutyTok ER (cell c 2) 0 () : sProp 𝕄))]
  exact BI.Entails.refl _

/-- What a device has at the start that is no ghost state of the exchange. -/
def goodsAtStart (c : Dev nD) : sProp 𝕄 :=
  iprop(StableHlo.held (c.tc : Thread nD τ) outer (fun b => m (c, b)) ∗ credits c ∗ owes (c : Thread nD τ) (debt c) ∅ ∗ ∃ r, prngReg c r)

theorem start_ready (κ : GSem nD τ sig → ℕ) (c : Dev nD) : iprop(known m κ ∗ (share c ∗ goodsAtStart m c)) ⊢ (before m).pre c := by
  show _ ⊢ iprop(StableHlo.held (c.tc : Thread nD τ) outer (fun b => m (c, b)) ∗ rides m c)
  unfold goodsAtStart rides Tk
  iintro ⟨#HR, Hs, Hh, Hc, HO, Hp⟩
  isplitl [Hh]; · iexact Hh
  isplitl [Hs Hc]
  · isplitl [Hs]
    · iapply (pack m κ c)
      isplitr; · iexact HR
      iexact Hs
    iexact Hc
  isplitl [Hp]; · iexact Hp
  iexists ∅; iexact HO

theorem unscoped_only : ∀ s : SemLoc sig, s.isScoped .tc = false → s = lane 0 := by decide +kernel

theorem unscoped_zero (c : Dev nD) : (unscopedSems0 c : sProp 𝕄) = semVal (cell c 0) 0 := by
  unfold unscopedSems0
  rw [show (Finset.univ.filter fun s : SemLoc sig => ¬ s.isScoped .tc) = {lane 0} from by decide +kernel, BI.bigSep_singleton]

theorem unzip {A B : Dev nD → sProp 𝕄} : (bigSep Finset.univ fun c => iprop(A c ∗ B c)) ⊢ iprop(bigSep Finset.univ A ∗ bigSep Finset.univ B) :=
  Entails.of_eq (bigSep_sep' Finset.univ A B)
theorem zip {A B : Dev nD → sProp 𝕄} : iprop(bigSep Finset.univ A ∗ bigSep Finset.univ B) ⊢ bigSep Finset.univ fun c => iprop(A c ∗ B c) :=
  Entails.of_eq (bigSep_sep' Finset.univ A B).symm

/-- Everything dealt. -/
theorem dealing :
    iprop((bigSep Finset.univ fun c : Dev nD => iprop(unscopedBufs c (fun b => m ((c : Thread nD τ).loc b)) ∗ unscopedSems0 c
          ∗ owes (c : Thread nD τ) (debt c) ∅ ∗ Pipeline.launchCred debt c ∗ prngReg c (ρ c) ∗ hoard c)) ∗ levAts L lv)
      ⊢ (|={Set.univ}=> bigSep Finset.univ (before m).pre : sProp 𝕄) := by
  have hcore (c : Dev nD) : iprop(unscopedBufs c (fun b => m ((c : Thread nD τ).loc b)) ∗ unscopedSems0 c
        ∗ owes (c : Thread nD τ) (debt c) ∅ ∗ Pipeline.launchCred debt c ∗ prngReg c (ρ c) ∗ hoard c)
      ⊢ (iprop(goodsAtStart m c ∗ (semVal (cell c 0) 0 ∗ hoard c)) : sProp 𝕄) := by
    rw [show unscopedBufs c (fun b => m ((c : Thread nD τ).loc b)) = StableHlo.held (c.tc : Thread nD τ) outer (fun b => m (c, b)) from
        Pipeline.unscopedBufs_held c (fun b => m (c, b)), unscoped_zero]
    unfold goodsAtStart credits
    iintro ⟨Hh, Hz, HO, Hcr, Hp, HG⟩
    ihave Hc := (dealt (F := F) c) $$ Hcr
    isplitl [Hh Hc HO Hp]
    · isplitl [Hh]; · iexact Hh
      isplitl [Hc]; · iexact Hc
      isplitl [HO]; · iexact HO
      iexists (ρ c); iexact Hp
    isplitl [Hz] <;> iassumption
  have hv : bigSep Finset.univ (fun c : Dev nD => (semVal (cell c 0) 0 : sProp 𝕄)) ⊢ bigSep bars (fun g => (semVal g 0 : sProp 𝕄)) :=
    Entails.of_eq (bigSep_map (s := Finset.univ) barAt (Φ := fun g : GSem nD τ sig => (semVal g 0 : sProp 𝕄))).symm
  have hat : bigSep bars (fun g => (atPos ER g 0 ∅ 0 : sProp 𝕄)) ⊢ bigSep Finset.univ (fun c : Dev nD => (atPos ER (cell c 0) 0 ∅ 0 : sProp 𝕄)) :=
    Entails.of_eq (bigSep_map (s := Finset.univ) barAt (Φ := fun g : GSem nD τ sig => (atPos ER g 0 ∅ 0 : sProp 𝕄)))
  have hopen : bigSep copies (fun g => (openTok ER g : sProp 𝕄))
      ⊢ bigSep Finset.univ (fun c : Dev nD => iprop(openTok ER (cell c 1) ∗ openTok ER (cell c 2))) :=
    Entails.of_eq (by
      unfold copies
      rw [bigSep_map, bigSep_univ_prod]
      exact bigSep_congr fun c _ => BI.bigSep_fin_two (fun k : Fin 2 => (openTok ER ((c : Thread nD τ), own2 k) : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (debt c) ∅ ∗ Pipeline.launchCred debt c ∗ prngReg c (ρ c) ∗ hoard c))
      ⊢ (bigSep Finset.univ fun c : Dev nD => iprop(goodsAtStart m c ∗ (semVal (cell c 0) 0 ∗ hoard c)) : sProp 𝕄) from bigSep_mono fun c _ => hcore c) $$ H
  ihave H2 := unzip $$ H'; icases H2 with ⟨HB, H3⟩
  ihave H4 := unzip $$ H3; icases H4 with ⟨Hv, HG⟩
  ihave Hu := (Entails.of_eq (hoard_all (F := F))) $$ HG
  imod (Rounds.fund_launch ER (plan (sums m)) bars_copies (fun g _ h => h) tickets) $$ [Hv Hu] with ⟨%κ, -, #Hinv, #Hr, Hat, Hopen, Htok⟩
  · isplitl [Hv]
    · iapply hv $$ Hv
    · iexact Hu
  imodintro
  iapply (bigSep_with_persistent (R := known m κ) (Φ := fun c => iprop(share c ∗ goodsAtStart m c)) fun c _ => start_ready m κ c)
  isplitr
  · unfold known
    isplitr; · iexact Hinv
    iexact Hr
  iapply zip
  isplitr [HB]
  · unfold share
    iapply zip; isplitl [Hat]; · iapply hat $$ Hat
    iapply zip; isplitl [Hopen]; · iapply hopen $$ Hopen
    iapply (tickets_dealt (F := F)) $$ Htok
  · iexact HB

/-! ## The end -/

/-- What a device holds at the end. -/
def ending (c : Dev nD) : sProp 𝕄 := iprop(StableHlo.held (c.tc : Thread nD τ) outer (V2 m c) ∗ semVal (cell c 0) 0)

theorem chained_end (c : Dev nD) : (afterwards m).post c
    ⊢ iprop(ending m c ∗ ∃ W, owes (c : Thread nD τ) (0 : CellTallies nD τ sig Unit) W) := by
  show iprop(StableHlo.held (c.tc : Thread nD τ) outer (V2 m c) ∗ rides' c) ⊢ _
  unfold rides' ending
  iintro ⟨Hh, Hz, HO⟩
  isplitr [HO]
  · isplitl [Hh] <;> iassumption
  iexact HO

/-- The buffers the claims speak of. -/
def shown : Finset (DevRef τ sig) :=
  {Proc.devRef .tc main_arg0, Proc.devRef .tc main_arg1, Proc.devRef .tc main_arg2, Proc.devRef .tc main_v3}

theorem shown_outer : shown ⊆ outer := by
  intro b hb
  unfold shown at hb
  simp only [Finset.mem_insert, Finset.mem_singleton] at hb
  rcases hb with rfl | rfl | rfl | rfl <;>
    exact Finset.mem_filter.mpr ⟨StableHlo.devRef_mem_tcRefs _, by decide⟩

theorem shown_held (c : Dev nD) (W : Valuation τ sig (Elt F)) : (StableHlo.held (c.tc : Thread nD τ) shown W : sProp 𝕄)
    = iprop(((c, Proc.devRef .tc main_arg0) ↦{fullShare} W (Proc.devRef .tc main_arg0))
      ∗ ((c, Proc.devRef .tc main_arg1) ↦{fullShare} W (Proc.devRef .tc main_arg1))
      ∗ ((c, Proc.devRef .tc main_arg2) ↦{fullShare} W (Proc.devRef .tc main_arg2))
      ∗ ((c, Proc.devRef .tc main_v3) ↦{fullShare} W (Proc.devRef .tc main_v3))) := by
  unfold StableHlo.held shown
  rw [bigSep_eq_bigSepL_of_eq [Proc.devRef .tc main_arg0, Proc.devRef .tc main_arg1, Proc.devRef .tc main_arg2, Proc.devRef .tc main_v3]
    (by decide +kernel) (by decide +kernel)]
  rfl

/-- The last line writes its result only. -/
theorem V2_of_ne (c : Dev nD) (r : Ref sig .tc) (h : r ≠ main_v3) (h' : r ≠ main_v2) : V2 m c (Proc.devRef .tc r) = V m c r := by
  unfold V2
  rw [StableHlo.after_of_forall_not_mem (b := Proc.devRef .tc r) _ _ (List.forall_iff_forall_mem.mp (by
    simp only [hostOps1, List.Forall, StableHlo.reshape_writes, Finset.mem_singleton]
    exact StableHlo.devRef_ne_of_ne h)), V1_of_ne m c _ (StableHlo.devRef_ne_of_ne h')]

/-- The result vector: the result array's column. -/
theorem V2_result (c : Dev nD) : V2 m c (Proc.devRef .tc main_v3)
    = shapeCast S2048 ((data m c).arrAt 3 cfg0.N) shapeCasts_S2048x1_S2048 := by
  unfold V2
  rw [StableHlo.after_cons, StableHlo.after_nil, StableHlo.reshape_result, V1_result]
  rfl

set_option backward.isDefEq.respectTransparency.types false in
/-- THE RUN: from counters at zero every execution ends, with the arguments as they were, the result vector the result
    array's column, and every counter at zero. -/
theorem run_all : θ_run defs (onTc (τ := τ) (main (F := F))) (s₀ m ρ) (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v3) = V2 m c (Proc.devRef .tc main_v3))
    ∧ r.2.sem = fun _ => 0) :=
  Pipeline.θ_run_regions_kit_sems (pcfgs (F := F)) adm (pdats m) () cellOf_inj EP defs₀ 𝒱₀ L lv m ρ main (segments m)
    (fun c Q => by rw [main_segs adm (pdats m) () 𝒱₀ L lv (before m) (afterwards m) (region m) rfl rfl c]; exact .rfl)
    (by simp only [segments, Pipeline.Seg.pipes_host, Pipeline.Seg.pipes_region, Pipeline.Seg.pipes_nil]; decide)
    (O₀ := debt) (hL := L_of_ne) (G := hoard) (u₀ := u₀ (F := F))
    (hu₀ := by
      unfold u₀
      iintro Hu
      ihave H := (ownU_pair _ _) $$ Hu
      icases H with ⟨HP, HX⟩
      imodintro
      isplitl [HP]; · iexact HP
      rw [hoard_all]; iexact HX)
    (T₀ := (before m).pre) (Tₙ := ending m)
    (hch := ⟨fun c => .rfl, fun c => into_region m c, fun c => out_of_region m c, fun c => chained_end m c⟩)
    (hinit := dealing m ρ)
    (QY := fun c s => (s.mem (c, Proc.devRef .tc main_arg0) = V2 m c (Proc.devRef .tc main_arg0)
        ∧ s.mem (c, Proc.devRef .tc main_arg1) = V2 m c (Proc.devRef .tc main_arg1)
        ∧ s.mem (c, Proc.devRef .tc main_arg2) = V2 m c (Proc.devRef .tc main_arg2)
        ∧ s.mem (c, Proc.devRef .tc main_v3) = V2 m c (Proc.devRef .tc main_v3)) ∧ s.sem (cell c 0) = 0)
    (hfin := fun c s' => by
      unfold ending
      rw [StableHlo.held_sub_split (c.tc : Thread nD τ) shown_outer, shown_held]
      iintro ⟨⟨⟨⟨H0, H1, H2, H3⟩, -⟩, Hz⟩, HSI⟩
      icombine HSI H0 gives %h0
      icombine HSI H1 gives %h1
      icombine HSI H2 gives %h2
      icombine HSI H3 gives %h3
      icombine HSI Hz gives %hz
      imodintro
      isplitr
      · ipureintro
        exact ⟨⟨Buf.eq_of_forall_mem_univ h0, Buf.eq_of_forall_mem_univ h1, Buf.eq_of_forall_mem_univ h2, Buf.eq_of_forall_mem_univ h3⟩,
          by simpa using hz⟩
      iexact HSI)
    (hQ := fun s h hs => ⟨fun c => by
        obtain ⟨⟨h0, h1, h2, h3⟩, -⟩ := h c
        refine ⟨h0.trans ?_, h1.trans ?_, h2.trans ?_, h3⟩
        · rw [V2_of_ne m c main_arg0 (by decide) (by decide)]; exact V_main_arg0 m c
        · rw [V2_of_ne m c main_arg1 (by decide) (by decide)]; exact V_main_arg1 m c
        · rw [V2_of_ne m c main_arg2 (by decide) (by decide)]; exact V_main_arg2 m c,
      sem_eq_zero hs fun c s' hs' => by
        obtain rfl := unscoped_only s' hs'
        exact (h c).2⟩)

end Cert.KernelIdeal.Swap

end
-- ==== Proof.LogSum.lean ====
/-
# The logarithm of a sum of exponentials

Real-number facts both programs rest on: a shift by any real may be taken out of the logarithm of a sum of exponentials,
the largest of finitely many reals is a real, and a sum in which one entry only counts is that entry.
-/
module

public import Idealize.ShloMosaic.Lib.Pipeline.ValueKit
public import Idealize.ShloMosaic.Lib.Pointwise

@[expose] public section

noncomputable section

namespace Cert.LogSum

open Idealize.ShloMosaic

/-- A sum of reals, each read as an extended real, is the sum of the reals. -/
theorem sum_real {ι : Type} (s : Finset ι) (f : ι → ℝ) : ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- A sum of products of finite numbers is finite. -/
theorem sum_mul_real {n : ℕ} (f g : Fin n → EReal) (hf : ∀ j, ∃ a : ℝ, f j = a) (hg : ∀ j, ∃ a : ℝ, g j = a) :
    ∃ a : ℝ, ∑ j, f j * g j = a := by
  choose p hp using hf
  choose q hq using hg
  refine ⟨∑ j, p j * q j, ?_⟩
  rw [← sum_real]
  exact Finset.sum_congr rfl fun j _ => by rw [hp, hq, EReal.coe_mul]

/-- The largest of finitely many reals, started from minus infinity, is one of them. -/
theorem max_real {n : ℕ} (l : Fin n → ℝ) (hn : 0 < n) :
    ∃ M : ℝ, (Finset.univ.fold max (⊥ : EReal) fun k => (l k : EReal)) = M := by
  have hne : (Finset.univ : Finset (Fin n)).Nonempty := ⟨⟨0, hn⟩, Finset.mem_univ _⟩
  obtain ⟨k, -, hk⟩ := Finset.exists_mem_eq_sup Finset.univ hne fun k => (l k : EReal)
  exact ⟨l k, hk⟩

/-- The sum of the exponentials of reals, as a real. -/
theorem sum_exp {n : ℕ} (l : Fin n → ℝ) : ∑ j, Ideal.exp (l j : EReal) = ((∑ j, Real.exp (l j) : ℝ) : EReal) := by
  rw [← sum_real]
  exact Finset.sum_congr rfl fun j _ => Ideal.exp_coe _

/-- The logarithm of a sum of exponentials, over at least one real. -/
theorem log_sum_exp {n : ℕ} (l : Fin n → ℝ) (hn : 0 < n) :
    Ideal.log (∑ j, Ideal.exp (l j : EReal)) = ((Real.log (∑ j, Real.exp (l j)) : ℝ) : EReal) := by
  have hpos : 0 < ∑ j, Real.exp (l j) :=
    Finset.sum_pos (fun j _ => Real.exp_pos _) ⟨⟨0, hn⟩, Finset.mem_univ _⟩
  rw [sum_exp, Ideal.log_coe, if_neg (not_le.mpr hpos)]

/-- Taking a shift out of the logarithm of a sum of exponentials. -/
theorem log_sum_shift {n : ℕ} (l : Fin n → ℝ) (M : ℝ) (hn : 0 < n) :
    (M : EReal) + Ideal.log (∑ j, Ideal.exp ((l j : EReal) - (M : EReal))) = Ideal.log (∑ j, Ideal.exp (l j : EReal)) := by
  have hpos : 0 < ∑ j, Real.exp (l j - M) :=
    Finset.sum_pos (fun j _ => Real.exp_pos _) ⟨⟨0, hn⟩, Finset.mem_univ _⟩
  have hsplit : ∑ j, Real.exp (l j) = Real.exp M * ∑ j, Real.exp (l j - M) := by
    rw [Finset.mul_sum]
    exact Finset.sum_congr rfl fun j _ => by rw [← Real.exp_add]; congr 1; ring
  simp only [← EReal.coe_sub]
  rw [log_sum_exp (fun j => l j - M) hn, log_sum_exp l hn, ← EReal.coe_add, hsplit,
    Real.log_mul (Real.exp_pos M).ne' hpos.ne', Real.log_exp]

/-- What the reference computes from a row of finite entries, its largest entry taken out and put back, is what the kernel
    computes: the logarithm of the plain sum of exponentials less the picked entry. -/
theorem row_loss {n : ℕ} (L : Fin n → EReal) (hL : ∀ j, ∃ a : ℝ, L j = a) (hn : 0 < n) (k : Fin n) :
    (Finset.univ.fold max (⊥ : EReal) L + Ideal.log (∑ j, Ideal.exp (L j - Finset.univ.fold max (⊥ : EReal) L))) - L k
      = Ideal.log (∑ j, Ideal.exp (L j)) - ∑ j, (if j = k then L j else 0) := by
  choose l hl using hL
  obtain rfl : L = fun j => (l j : EReal) := funext hl
  obtain ⟨M, hM⟩ := max_real l hn
  rw [hM, log_sum_shift l M hn, Finset.sum_ite_eq' Finset.univ k, if_pos (Finset.mem_univ k)]

end Cert.LogSum

end
-- ==== Proof.KernelIdealSum.lean ====
/-
# What a device's accumulator holds

Over the extended reals: a block adds to the first column of the accumulator the exponentials of the block's logits, to
the second the logit under the label if the block has it. After sixteen blocks the first column holds the device's whole
sum of exponentials, the second the logit under the label if it is one of the device's columns.
-/
module

public import proofs.«01_k».proof.Proof.KernelIdealRun
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Sum

open Idealize.ShloMosaic Idealize.ShloMosaic.TcCoe Idealize.SL.Sem
open Idealize.ShloMosaic.Pipeline (Dat)
open Cert.KernelIdeal Cert.KernelIdeal.Gen Cert.KernelIdeal.Swap

/-! ## Words -/

/-- A choice on the equality of two words is a choice on whether they are equal. -/
theorem select_eq {α : Type} (u v : BitVec 32) (p q : α) : Scalar.select (IntOp.cmpi .eq u v) p q = if u = v then p else q := by
  by_cases h : u = v
  · subst h; simp [IntOp.cmpi, Scalar.select]
  · have hb : (u == v) = false := by simpa using h
    simp [IntOp.cmpi, Scalar.select, h, hb]

/-- The device's place along the second mesh axis, as the body computes it. -/
theorem place_word : ∀ c : Dev nD, Scalar.remsi (Scalar.divsi c.word 1#32) 2#32 = BitVec.ofNat 32 (c.val % 2) := by decide +kernel

/-- The column numbers the body compares the labels with. -/
theorem column_word (c : Dev nD) (n k : ℕ) :
    IntOp.addi (Scalar.addi (Scalar.muli (Scalar.remsi (Scalar.divsi c.word 1#32) 2#32) 8192#32)
      (Scalar.muli (BitVec.ofNat 32 n) 512#32)) (BitVec.ofNat 32 k) = BitVec.ofNat 32 (c.val % 2 * 8192 + (n * 512 + k)) := by
  rw [place_word]
  simp only [IntOp.addi, Scalar.addi, Scalar.muli, IntOp.muli, ← BitVec.ofNat_mul, ← BitVec.ofNat_add, Nat.add_assoc]

/-! ## A block -/

section Block

variable (i : grid0.Coords) (c : Dev nD) (x : FVec Ideal S2048x4096 .bf16) (w : FVec Ideal S4096x512 .bf16) (l : IVec S2048x1 32)
  (a : FVec Ideal S2048x2 .f32) (r : Fin 2048)

/-- A block's contribution to the sum of exponentials. -/
theorem block_exp : k0_pay4 (F := Ideal) i c x w l a (ix2 r 0)
    = a (ix2 r 0) + ∑ k : Fin 512, Ideal.exp (∑ d, x (ix2 r d) * w (ix2 d k)) := by
  pointwise [k0_pay4]

/-- A block's contribution to the logit under the label. -/
theorem block_pick : k0_pay4 (F := Ideal) i c x w l a (ix2 r 1)
    = a (ix2 r 1) + ∑ k : Fin 512, if l (ix2 r 0) = BitVec.ofNat 32 (c.val % 2 * 8192 + ((i 0).val * 512 + k.val))
        then ∑ d, x (ix2 r d) * w (ix2 d k) else 0 := by
  pointwise [k0_pay4]
  congr 1
  refine Finset.sum_congr rfl fun k _ => ?_
  rw [select_eq, column_word]

theorem zero_at (j : S2048x2.Idx) : k0_pay3 (F := Ideal) j = 0 := by
  pointwise [k0_pay3]

theorem pay1_eq (v : FVec Ideal S2048x2 .f32) : k0_pay1 v = v := by
  funext j
  pointwise [k0_pay1]

/-- The last store: the logarithm of both sums of exponentials less both picked logits. -/
theorem last_at (p q : FVec Ideal S2048x2 .f32) : k0_pay2 (F := Ideal) p q (ix2 r 0)
    = Ideal.log (p (ix2 r 0) + q (ix2 r 0)) - (p (ix2 r 1) + q (ix2 r 1)) := by
  pointwise [k0_pay2]

end Block

/-! ## The blocks of the arrays -/

variable (m : (ℓ : Loc nD τ sig) → Buf (Elt Ideal) ℓ)

theorem idx : ∀ t : Fin cfg0.N, win0_0.index t = ![0, 0] ∧ win0_1.index t = ![0, t.val] ∧ win0_2.index t = ![0, 0]
    ∧ win0_3.index t = ![0, 0] :=
  (by decide +kernel : ∀ t : Fin grid0.N, _)

theorem coord : ∀ t : Fin cfg0.N, (grid0.coords t 0).val = t.val :=
  (by decide +kernel : ∀ t : Fin grid0.N, _)

/-- A device's activations, its columns of the weights, its labels. -/
abbrev acts (c : Dev nD) : FVec Ideal S2048x4096 .bf16 := m ((c : Thread nD τ).loc main_arg0)
abbrev weights (c : Dev nD) : FVec Ideal S4096x8192 .bf16 := m ((c : Thread nD τ).loc main_arg1)
abbrev labels (c : Dev nD) : IVec S2048 32 := m ((c : Thread nD τ).loc main_arg2)

theorem acts_block (c : Dev nD) (t : Fin cfg0.N) (r : Fin 2048) (d : Fin 4096) :
    (show FVec Ideal S2048x4096 .bf16 from iblk m c 0 t) (ix2 r d) = acts m c (ix2 r d) := by
  blk_ext [iblk, V, idx t]

theorem weights_block (c : Dev nD) (t : Fin cfg0.N) (d : Fin 4096) (k : Fin 512) :
    (show FVec Ideal S4096x512 .bf16 from iblk m c 1 t) (ix2 d k)
      = weights m c (ix2 d ⟨t.val * 512 + k.val, by have := point_lt t; omega⟩) := by
  blk_ext [iblk, V, idx t]

theorem labels_block (c : Dev nD) (t : Fin cfg0.N) (r : Fin 2048) :
    (show IVec S2048x1 32 from iblk m c 2 t) (ix2 r 0) = labels m c (ix1 r) := by
  have e : V m c main_v1 = shapeCast S2048x1 (labels m c) shapeCasts_S2048_S2048x1 := by
    show StableHlo.after [hostOps0].flatten (fun b => m (c, b)) (Proc.devRef .tc main_v1) = _
    rw [List.flatten_cons, List.flatten_nil, List.append_nil, StableHlo.after_cons, StableHlo.after_nil, StableHlo.reshape_result]
    rfl
  have h : (show IVec S2048x1 32 from iblk m c 2 t) (ix2 r 0) = (show IVec S2048x1 32 from V m c main_v1) (ix2 r 0) := by
    blk_ext [iblk, idx t]
  rw [h, e]
  pointwise

/-! ## The sums -/

/-- The logit of row `r` at the device's column `n`. -/
def logit (c : Dev nD) (r : Fin 2048) (n : Fin 8192) : EReal := ∑ d : Fin 4096, acts m c (ix2 r d) * weights m c (ix2 d n)

/-- Whether the label of row `r` is the device's column `n`. -/
abbrev hit (c : Dev nD) (r : Fin 2048) (n : ℕ) : Prop := labels m c (ix1 r) = BitVec.ofNat 32 (c.val % 2 * 8192 + n)

/-- The first column's sum over block `t`. -/
def expPart (c : Dev nD) (r : Fin 2048) (t : Fin 16) : EReal :=
  ∑ k : Fin 512, Ideal.exp (logit m c r ⟨t.val * 512 + k.val, by omega⟩)

/-- The second column's sum over block `t`. -/
def pickPart (c : Dev nD) (r : Fin 2048) (t : Fin 16) : EReal :=
  ∑ k : Fin 512, if hit m c r (t.val * 512 + k.val) then logit m c r ⟨t.val * 512 + k.val, by omega⟩ else 0

/-- Before its first block the accumulator is cleared, so a block always adds to what the blocks before it left. -/
theorem base_acc (c : Dev nD) (t : Fin cfg0.N) : base (grid0.coords t) (acc m c t.val) = acc m c t.val := by
  unfold base
  by_cases h : firstWord (grid0.coords t) = 1#1
  · rw [if_pos h, (first_iff t).mp h]
    rfl
  · rw [if_neg h]

theorem acc_exp (c : Dev nD) (r : Fin 2048) (t : Fin cfg0.N) : acc m c (t.val + 1) (ix2 r 0)
    = acc m c t.val (ix2 r 0) + expPart m c r ⟨t.val, point_lt t⟩ := by
  rw [acc_succ, move, step, pay1_eq, base_acc, block_exp]
  refine congrArg _ (Finset.sum_congr rfl fun k _ => congrArg _ (Finset.sum_congr rfl fun d _ => ?_))
  exact congrArg₂ _ (acts_block m c t r d) (weights_block m c t d k)

theorem acc_pick (c : Dev nD) (r : Fin 2048) (t : Fin cfg0.N) : acc m c (t.val + 1) (ix2 r 1)
    = acc m c t.val (ix2 r 1) + pickPart m c r ⟨t.val, point_lt t⟩ := by
  rw [acc_succ, move, step, pay1_eq, base_acc, block_pick, coord]
  refine congrArg _ (Finset.sum_congr rfl fun k _ => ?_)
  have hl := labels_block m c t r
  have hs : (∑ d, (show FVec Ideal S2048x4096 .bf16 from iblk m c 0 t) (ix2 r d)
      * (show FVec Ideal S4096x512 .bf16 from iblk m c 1 t) (ix2 d k))
      = logit m c r ⟨t.val * 512 + k.val, by have := point_lt t; omega⟩ :=
    Finset.sum_congr rfl fun d _ => congrArg₂ _ (acts_block m c t r d) (weights_block m c t d k)
  exact if_congr (iff_of_eq (congrArg (· = _) hl)) hs rfl

/-- A quantity that starts at zero and at each of sixteen points gains that point's part ends as the sum of the parts. -/
theorem gains (f : ℕ → EReal) (p : Fin 16 → EReal) (h0 : f 0 = 0)
    (hs : ∀ t : Fin 16, f (t.val + 1) = f t.val + p t) : f 16 = ∑ t, p t := by
  have key : ∀ n : ℕ, n ≤ 16 → f n = ∑ t ∈ Finset.range n, if h : t < 16 then p ⟨t, h⟩ else 0 := by
    intro n
    induction n with
    | zero => intro _; simpa using h0
    | succ n ih =>
      intro h
      rw [Finset.sum_range_succ, ← ih (by omega), dif_pos (by omega : n < 16)]
      exact hs ⟨n, by omega⟩
  rw [key 16 le_rfl, Finset.sum_range]
  exact Finset.sum_congr rfl fun t _ => dif_pos t.isLt

/-- The device's first column after its last block: the exponentials of all its logits, summed. -/
theorem sums_exp (c : Dev nD) (r : Fin 2048) : sums m c (ix2 r 0) = ∑ n : Fin 8192, Ideal.exp (logit m c r n) := by
  refine (gains (fun n => acc m c n (ix2 r 0)) (expPart m c r) (zero_at _) fun t => ?_).trans ?_
  · exact acc_exp m c r ⟨t.val, t.isLt.trans_eq N_0.symm⟩
  · exact (Fin.sum_univ_tiles 16 512 rfl fun n : Fin 8192 => Ideal.exp (logit m c r n)).symm

/-- The device's second column after its last block: the logit under the label, if the label is one of its columns. -/
theorem sums_pick (c : Dev nD) (r : Fin 2048) : sums m c (ix2 r 1)
    = ∑ n : Fin 8192, if hit m c r n.val then logit m c r n else 0 := by
  refine (gains (fun n => acc m c n (ix2 r 1)) (pickPart m c r) (zero_at _) fun t => ?_).trans ?_
  · exact acc_pick m c r ⟨t.val, t.isLt.trans_eq N_0.symm⟩
  · exact (Fin.sum_univ_tiles 16 512 rfl fun n : Fin 8192 => if hit m c r n.val then logit m c r n else 0).symm

/-! ## The result -/

/-- The result array after the run is the column the last point stores. -/
theorem result_array (c : Dev nD) : (data m c).arrAt 3 cfg0.N = column m c := by
  refine (data m c).arrAt_eq_of_after_last 3 t0_15 (by decide +kernel) _ fun j => ?_
  blk_simp
  rw [after_3]
  blk_ext [idx t0_15]

/-- The result vector at row `r`: the logarithm of both devices' sums of exponentials less both picked logits. -/
theorem result_at (c : Dev nD) (r : Fin 2048) :
    (show FVec Ideal S2048 .f32 from V2 m c (Proc.devRef .tc main_v3)) (ix1 r)
      = Ideal.log ((∑ n : Fin 8192, Ideal.exp (logit m c r n)) + ∑ n : Fin 8192, Ideal.exp (logit m (mate c) r n))
        - ((∑ n : Fin 8192, if hit m c r n.val then logit m c r n else 0)
          + ∑ n : Fin 8192, if hit m (mate c) r n.val then logit m (mate c) r n else 0) := by
  have h : (show FVec Ideal S2048 .f32 from V2 m c (Proc.devRef .tc main_v3)) (ix1 r) = column m c (ix2 r 0) := by
    rw [V2_result, result_array]
    pointwise
  rw [h, column, last_at, sums_exp, sums_exp, sums_pick, sums_pick]

end Cert.KernelIdeal.Sum

end
-- ==== Proof.ReferenceRow.lean ====
/-
# What the reference computes for a row

The reference's term read at a row whose label is a column of the vocabulary.
-/
module

public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.ReferenceIdeal.Row

open Idealize.ShloMosaic Idealize.ShloMosaic.TcCoe Idealize.SL.Sem
open Cert.ReferenceIdeal Cert.ReferenceIdeal.Gen

attribute [local instance] Cert.ReferenceIdeal.Gen.facts

variable (x : FVec Ideal S2048x4096 .bf16) (w : FVec Ideal S4096x16384 .bf16) (l : IVec S2048 32)

/-- The logits. -/
abbrev logits : FVec Ideal S2048x16384 .bf16 :=
  truncf .bf16 (Host.dotGeneral dot_S2048x4096_S4096x16384_S2048x16384_1_0_0_1_n_n none x w) bitsLt_bf16_f32

/-- The largest logit of each row. -/
abbrev largest (L : FVec Ideal S2048x16384 .bf16) : FVec Ideal S2048x1 .bf16 :=
  broadcastInDim S2048x1 ![0] bcast_S2048_S2048x1_0
    (Host.reduce FloatOps.maximumf L (constant S_ .bf16 0xFF80#16) reducesTo_S2048x16384_S2048_d1 h_S_)

/-- The logarithm of each row's sum of exponentials, a column `M` taken out of the row and put back. -/
abbrev logSum (L : FVec Ideal S2048x16384 .bf16) (M : FVec Ideal S2048x1 .bf16) : FVec Ideal S2048x1 .bf16 :=
  addf M (Host.log (truncf .bf16 (broadcastInDim S2048x1 ![0] bcast_S2048_S2048x1_0
    (Host.reduceAdd (extf .f32 (Host.exp (subf L (broadcastInDim S2048x16384 ![0, 1] bcast_S2048x1_S2048x16384_0_1 M)))
      bitsLt_bf16_f32) (constant S_ .f32 0x00000000#32) reducesTo_S2048x16384_S2048_d1 h_S_)) bitsLt_bf16_f32))

/-- An index counted from the end when it is negative. -/
abbrev wrapped (v : IVec S2048 32) (n : BitVec 32) : IVec S2048 32 :=
  select (cmpi .slt v (broadcastInDim S2048 ![] bcast_S_S2048 (constantI S_ 32 0#32)))
    (addi v (broadcastInDim S2048 ![] bcast_S_S2048 (constantI S_ 32 n))) v

/-- The row and column of each row's label. -/
abbrev places : IVec S2048x2 32 :=
  concatenate S2048x2 1 [⟨S2048x1, broadcastInDim S2048x1 ![0] bcast_S2048_S2048x1_0 (wrapped (iotaInDim S2048 32 0) 2048#32)⟩,
    ⟨S2048x1, broadcastInDim S2048x1 ![0] bcast_S2048_S2048x1_0 (wrapped l 16384#32)⟩] concatenates_S2048x1_S2048x1_S2048x2_d1

/-- The reference's result. -/
abbrev loss : FVec Ideal S2048 .f32 :=
  extf .f32 (subf (shapeCast S2048 (logSum (logits x w) (largest (logits x w))) shapeCasts_S2048x1_S2048)
    (Host.gather gather_S2048x16384_S2048x2_S2048_n_01_n_n_01_1_11 (logits x w) (places l))) bitsLt_bf16_f32

theorem logits_at (r : Fin 2048) (n : Fin 16384) : logits x w (ix2 r n) = ∑ d : Fin 4096, x (ix2 r d) * w (ix2 d n) := by
  pointwise [logits]

/-- The pattern of minus infinity. -/
theorem minus_infinity : Ideal.ofBits .bf16 0xFF80#16 = ⊥ := by simp [Ideal.ofBits, Ideal.ieee]

theorem largest_at (L : FVec Ideal S2048x16384 .bf16) (r : Fin 2048) : largest L (ix2 r 0)
    = Finset.univ.fold max (⊥ : EReal) fun k => L (ix2 r k) := by
  rw [← minus_infinity]
  pointwise [largest]

theorem total_at (L : FVec Ideal S2048x16384 .f32) (r : Fin 2048) : Host.reduceAdd L (constant S_ .f32 0x00000000#32)
    reducesTo_S2048x16384_S2048_d1 h_S_ (ix1 r) = ∑ k : Fin 16384, L (ix2 r k) := by
  pointwise

theorem shifted_at (L : FVec Ideal S2048x16384 .bf16) (M : FVec Ideal S2048x1 .bf16) (r : Fin 2048) (k : Fin 16384) :
    (extf .f32 (Host.exp (subf L (broadcastInDim S2048x16384 ![0, 1] bcast_S2048x1_S2048x16384_0_1 M))) bitsLt_bf16_f32
      : FVec Ideal S2048x16384 .f32) (ix2 r k) = Ideal.exp (L (ix2 r k) - M (ix2 r 0)) := by
  pointwise

theorem log_at (M : FVec Ideal S2048x1 .bf16) (T : FVec Ideal S2048 .f32) (r : Fin 2048) :
    (addf M (Host.log (truncf .bf16 (broadcastInDim S2048x1 ![0] bcast_S2048_S2048x1_0 T) bitsLt_bf16_f32))
      : FVec Ideal S2048x1 .bf16) (ix2 r 0) = M (ix2 r 0) + Ideal.log (T (ix1 r)) := by
  pointwise

theorem logSum_at (L : FVec Ideal S2048x16384 .bf16) (M : FVec Ideal S2048x1 .bf16) (r : Fin 2048) : logSum L M (ix2 r 0)
    = M (ix2 r 0) + Ideal.log (∑ k : Fin 16384, Ideal.exp (L (ix2 r k) - M (ix2 r 0))) := by
  refine (log_at M _ r).trans ?_
  rw [total_at]
  exact congrArg _ (congrArg _ (Finset.sum_congr rfl fun k _ => shifted_at L M r k))

/-- An index that is not negative stays. -/
theorem keep (v n : BitVec 32) (h : 0 ≤ v.toInt) : Scalar.select (IntOp.cmpi .slt v 0#32) (IntOp.addi v n) v = v := by
  have hs : v.slt 0#32 = false := by simp only [BitVec.slt, BitVec.toInt_zero, decide_eq_false_iff_not, not_lt]; exact h
  simp [IntOp.cmpi, Scalar.select, hs]

theorem toInt_small {n : ℕ} (h : n < 16384) : (BitVec.ofNat 32 n).toInt = n := by
  rw [BitVec.toInt_eq_toNat_of_lt] <;> simp only [BitVec.toNat_ofNat] <;> omega

theorem places_row (r : Fin 2048) : places l (ix2 r 0) = BitVec.ofNat 32 r.val := by
  pointwise [places, wrapped]
  exact keep _ _ (by rw [toInt_small (by omega)]; omega)

theorem places_col (r : Fin 2048) (h : 0 ≤ (l (ix1 r)).toInt) : places l (ix2 r 1) = l (ix1 r) := by
  pointwise [places, wrapped]
  exact keep _ _ h

theorem gather_at (L : FVec Ideal S2048x16384 .bf16) (p : IVec S2048x2 32) (r : Fin 2048) (i : Fin 2048) (j : Fin 16384)
    (hi : (p (ix2 r 0)).toInt = i.val) (hj : (p (ix2 r 1)).toInt = j.val) :
    Host.gather gather_S2048x16384_S2048x2_S2048_n_01_n_n_01_1_11 L p (ix1 r) = L (ix2 i j) := by
  set D := gather_S2048x16384_S2048x2_S2048_n_01_n_n_01_1_11 with hD
  have hcol : ∀ b : Fin 2, b ∈ D.collapsedSliceDims := by decide
  have hmap : ∀ b : Fin 2, b ∈ D.startIndexMap := by decide
  unfold Host.gather
  congr 1
  funext b
  refine Fin.ext ?_
  show D.start (ix1 r) p b + D.batchCoord (ix1 r) b + D.offCoord (ix1 r) b = _
  rw [GatherDims.batchCoord_eq_zero _ _ _ List.not_mem_nil,
    GatherDims.offCoord_eq_zero _ _ _ (fun h => ((GatherDims.mem_sKept _ _).mp h).1 (hcol b))]
  simp only [Nat.add_zero]
  unfold GatherDims.start
  rw [dif_pos (hmap b)]
  have hsi : D.siIdx (ix1 r) ⟨List.idxOf b D.startIndexMap, List.idxOf_lt_length_iff.2 (hmap b)⟩ = ix2 r b := by
    funext a
    refine Fin.ext ?_
    match a, b with
    | ⟨0, _⟩, _ => rfl
    | ⟨1, _⟩, ⟨0, _⟩ => rfl
    | ⟨1, _⟩, ⟨1, _⟩ => rfl
  rw [hsi]
  match b with
  | ⟨0, _⟩ =>
    show min (p (ix2 r 0)).toInt.toNat (2048 - 1) = i.val
    rw [hi]; have := i.isLt; simp only [Int.toNat_natCast]; omega
  | ⟨1, _⟩ =>
    show min (p (ix2 r 1)).toInt.toNat (16384 - 1) = j.val
    rw [hj]; have := j.isLt; simp only [Int.toNat_natCast]; omega

theorem last_at (S : FVec Ideal S2048x1 .bf16) (G : FVec Ideal S2048 .bf16) (r : Fin 2048) :
    (extf .f32 (subf (shapeCast S2048 S shapeCasts_S2048x1_S2048) G) bitsLt_bf16_f32 : FVec Ideal S2048 .f32) (ix1 r)
      = S (ix2 r 0) - G (ix1 r) := by
  pointwise

/-- The reference's result at a row whose label is the column `k`. -/
theorem loss_at (r : Fin 2048) (k : Fin 16384) (hk : l (ix1 r) = BitVec.ofNat 32 k.val) :
    loss x w l (ix1 r) = ((Finset.univ.fold max (⊥ : EReal) fun n => logits x w (ix2 r n))
      + Ideal.log (∑ n : Fin 16384, Ideal.exp (logits x w (ix2 r n)
        - Finset.univ.fold max (⊥ : EReal) fun n => logits x w (ix2 r n)))) - logits x w (ix2 r k) := by
  have hl : (l (ix1 r)).toInt = k.val := by rw [hk, toInt_small k.isLt]
  have hg := gather_at (logits x w) (places l) r r k (by rw [places_row, toInt_small (by omega)])
    (by rw [places_col l r (by omega), hl])
  refine (last_at _ _ r).trans ?_
  rw [logSum_at, largest_at, hg]

end Cert.ReferenceIdeal.Row

end
-- ==== Proof.Value.lean ====
/-
# The kernel's result is the reference's

Finite activations and weights and a label in range for every row: then the two devices' sums over their halves of the
vocabulary make the reference's sum over the whole of it.
-/
module

public import proofs.«01_k».proof.Defs
public import proofs.«01_k».proof.Proof.LogSum
public import proofs.«01_k».proof.Proof.KernelIdealSum
public import proofs.«01_k».proof.Proof.ReferenceRow

@[expose] public section

set_option maxRecDepth 16384

noncomputable section

namespace Cert.Value

open Idealize.ShloMosaic Idealize.ShloMosaic.TcCoe Idealize.SL.Sem
open Cert.KernelIdeal.Swap (mate)
open Cert.KernelIdeal.Sum (acts weights labels logit hit)

attribute [local instance] Cert.KernelIdeal.Gen.facts Cert.ReferenceIdeal.Gen.facts

/-! ## What the precondition says -/

/-- The shapes of the precondition's lines. -/
theorem pre_kernel : Cert.Pre_finite_and_in_range_KernelIdeal.Facts := ⟨by decide, by decide, by decide⟩
theorem pre_reference : Cert.Pre_finite_and_in_range_ReferenceIdeal.Facts := ⟨by decide, by decide, by decide⟩

attribute [local instance] pre_kernel

/-- The pattern of plus infinity. -/
theorem plus_infinity : Ideal.ofBits .bf16 0x7F80#16 = ⊤ := by simp [Ideal.ofBits, Ideal.ieee]

/-- A number whose absolute value is below plus infinity is a real. -/
theorem real_of_abs (x : EReal) (h : BitVec.ofBool (decide (max x (-x) < Ideal.ofBits .bf16 0x7F80#16)) = 1#1) :
    ∃ a : ℝ, x = a := by
  have hlt : max x (-x) < ⊤ := by
    rw [plus_infinity] at h
    by_contra hn
    simp [hn] at h
  induction x using EReal.rec with
  | bot => simp at hlt
  | top => simp at hlt
  | coe a => exact ⟨a, rfl⟩

/-- A word from zero to below the vocabulary's size is a column's number. -/
theorem column_of_range (v : BitVec 32)
    (h : IntOp.andi (IntOp.cmpi .sge v 0#32) (IntOp.cmpi .slt v 16384#32) = 1#1) : ∃ k : Fin 16384, v = BitVec.ofNat 32 k.val := by
  have both : ∀ a b : Bool, BitVec.ofBool a &&& BitVec.ofBool b = 1#1 → a = true ∧ b = true := by decide
  obtain ⟨h0, h1⟩ := both _ _ h
  have l0 : (0#32).toInt ≤ v.toInt := by simpa [BitVec.sle] using h0
  have l1 : v.toInt < (16384#32).toInt := by simpa [BitVec.slt] using h1
  have hv : v.toNat < 16384 := by
    have e0 : (0#32).toInt = 0 := rfl
    have e1 : (16384#32).toInt = 16384 := rfl
    have e := BitVec.toInt_eq_toNat_cond v
    have hlt := v.isLt
    rw [e0] at l0
    rw [e1] at l1
    split at e <;> omega
  exact ⟨⟨v.toNat, hv⟩, by simp⟩

section Pre

variable (m : (ℓ : Loc Cert.KernelIdeal.nD Cert.KernelIdeal.τ Cert.KernelIdeal.sig) → Buf (Elt Ideal) ℓ)
  (h : Cert.Pre_KernelIdeal_finite_and_in_range_KernelIdeal m) (c : Dev Cert.KernelIdeal.nD)
include h

theorem acts_real (r : Fin 2048) (d : Fin 4096) : ∃ a : ℝ, acts m c (ix2 r d) = a := by
  have e := congrFun (h c).1 (ix2 r d)
  revert e
  pointwise [Cert.Pre_finite_and_in_range_KernelIdeal.fn]
  exact real_of_abs _

theorem weights_real (d : Fin 4096) (n : Fin 8192) : ∃ a : ℝ, weights m c (ix2 d n) = a := by
  have e := congrFun (h c).2.1 (ix2 d n)
  revert e
  pointwise [Cert.Pre_finite_and_in_range_KernelIdeal.fn]
  exact real_of_abs _

theorem label_column (r : Fin 2048) : ∃ k : Fin 16384, labels m c (ix1 r) = BitVec.ofNat 32 k.val := by
  have e := congrFun (h c).2.2 (ix1 r)
  revert e
  pointwise [Cert.Pre_finite_and_in_range_KernelIdeal.fn]
  exact column_of_range _

end Pre

/-! ## The halves of the vocabulary -/

/-- The column of the vocabulary a device's column `n` is. -/
abbrev column (c : Dev Cert.KernelIdeal.nD) (n : Fin 8192) : Fin 16384 := ⟨c.val % 2 * 8192 + n.val, by omega⟩

/-- Column `n` of a device's block of the weights. -/
theorem block_column (c : Dev Cert.KernelIdeal.nD) (w : FVec Ideal ⟨2, ![4096, 16384]⟩ .bf16) (d : Fin 4096) (n : Fin 8192) :
    (Layout.blockN ⟨2, ![4096, 8192]⟩ ⟨2, ![4096, 16384]⟩ (Layout.meshBlock [2, 2] ![[], [1]] c) w : FVec Ideal ⟨2, ![4096, 8192]⟩ .bf16)
      (ix2 d n) = w (ix2 d (column c n)) := by
  rw [Layout.blockN_apply]
  congr 1
  funext b
  refine Fin.ext ?_
  rw [Layout.TilesN.idx_val]
  match b with
  | ⟨0, _⟩ =>
    show Layout.meshLin [2, 2] c.val [] * 4096 + d.val = d.val
    simp [Layout.meshLin]
  | ⟨1, _⟩ =>
    show Layout.meshLin [2, 2] c.val [1] * 8192 + n.val = c.val % 2 * 8192 + n.val
    simp [Layout.meshLin, Layout.meshCoord, Layout.cutSize]

theorem mate_place : ∀ c : Dev Cert.KernelIdeal.nD, (c.val % 2 = 0 ∧ (mate c).val % 2 = 1) ∨ (c.val % 2 = 1 ∧ (mate c).val % 2 = 0) := by
  decide

/-- A sum over a device's columns and a sum over its mate's are the sum over the vocabulary. -/
theorem halves (c : Dev Cert.KernelIdeal.nD) (f : Fin 16384 → EReal) :
    (∑ n : Fin 8192, f (column c n)) + ∑ n : Fin 8192, f (column (mate c) n) = ∑ n, f n := by
  rw [Fin.sum_univ_tiles 2 8192 rfl f, Fin.sum_univ_two]
  have key : ∀ (d : Dev Cert.KernelIdeal.nD) (b : Fin 2), d.val % 2 = b.val →
      ∑ n : Fin 8192, f (column d n) = ∑ n : Fin 8192, f ⟨b.val * 8192 + n.val, by omega⟩ := fun d b hb =>
    Finset.sum_congr rfl fun n _ => congrArg f (Fin.ext (by show d.val % 2 * 8192 + n.val = _; rw [hb]))
  rcases mate_place c with ⟨h, h'⟩ | ⟨h, h'⟩
  · rw [key c 0 h, key (mate c) 1 h']
  · rw [key c 1 h, key (mate c) 0 h', add_comm]

/-! ## The result -/

section Result

variable (m : (ℓ : Loc Cert.KernelIdeal.nD Cert.KernelIdeal.τ Cert.KernelIdeal.sig) → Buf (Elt Ideal) ℓ)
  (h : Cert.Pre_KernelIdeal_finite_and_in_range_KernelIdeal m)
  (x : FVec Ideal Cert.ReferenceIdeal.S2048x4096 .bf16) (w : FVec Ideal Cert.ReferenceIdeal.S4096x16384 .bf16)
  (l : IVec Cert.ReferenceIdeal.S2048 32)
  (hx : ∀ c, acts m c = x)
  (hw : ∀ c, weights m c = Layout.blockN ⟨2, ![4096, 8192]⟩ ⟨2, ![4096, 16384]⟩ (Layout.meshBlock [2, 2] ![[], [1]] c) w)
  (hl : ∀ c, labels m c = l)

include hx hw in
theorem logit_eq (c : Dev Cert.KernelIdeal.nD) (r : Fin 2048) (n : Fin 8192) :
    logit m c r n = Cert.ReferenceIdeal.Row.logits x w (ix2 r (column c n)) := by
  rw [Cert.ReferenceIdeal.Row.logits_at]
  refine Finset.sum_congr rfl fun d _ => ?_
  rw [hx c, hw c, block_column]

include h hx hw in
theorem logit_real (r : Fin 2048) (n : Fin 16384) : ∃ a : ℝ, Cert.ReferenceIdeal.Row.logits x w (ix2 r n) = a := by
  have own : ∀ (c : Dev Cert.KernelIdeal.nD) (k : Fin 8192), ∃ a : ℝ, logit m c r k = a := fun c k =>
    LogSum.sum_mul_real _ _ (fun d => acts_real m h c r d) fun d => weights_real m h c d k
  by_cases hn : n.val < 8192
  · obtain ⟨a, ha⟩ := own (0 : Fin 4) ⟨n.val, hn⟩
    refine ⟨a, ?_⟩
    rw [← ha, logit_eq m x w hx hw]
    exact congrArg (fun k => Cert.ReferenceIdeal.Row.logits x w (ix2 r k)) (Fin.ext (by simp))
  · obtain ⟨a, ha⟩ := own (1 : Fin 4) ⟨n.val - 8192, by omega⟩
    refine ⟨a, ?_⟩
    rw [← ha, logit_eq m x w hx hw]
    exact congrArg (fun k => Cert.ReferenceIdeal.Row.logits x w (ix2 r k)) (Fin.ext (by simp; omega))

include h hx hw hl in
/-- Every device's result is the reference's. -/
theorem result_eq (c : Dev Cert.KernelIdeal.nD) :
    (show FVec Ideal Cert.KernelIdeal.S2048 .f32 from Cert.KernelIdeal.Swap.V2 m c (Proc.devRef .tc Cert.KernelIdeal.main_v3))
      = Cert.ReferenceIdeal.Row.loss x w l := by
  funext j
  obtain ⟨r, rfl⟩ : ∃ r : Fin 2048, j = ix1 r := ⟨j 0, by funext a; obtain rfl : a = 0 := Subsingleton.elim _ _; rfl⟩
  obtain ⟨k, hk⟩ := label_column m h c r
  have hkl : l (ix1 r) = BitVec.ofNat 32 k.val := by rw [← hl c]; exact hk
  have hit_eq : ∀ (d : Dev Cert.KernelIdeal.nD) (n : Fin 8192), hit m d r n.val ↔ column d n = k := fun d n => by
    unfold hit
    rw [hl d, hkl, Fin.ext_iff]
    constructor
    · intro e
      have e' := congrArg BitVec.toNat e
      simp only [BitVec.toNat_ofNat] at e'
      show d.val % 2 * 8192 + n.val = k.val
      omega
    · intro e
      rw [← e]
  refine (Cert.KernelIdeal.Sum.result_at m c r).trans ?_
  rw [Cert.ReferenceIdeal.Row.loss_at x w l r k hkl,
    LogSum.row_loss (fun n => Cert.ReferenceIdeal.Row.logits x w (ix2 r n)) (logit_real m h x w hx hw r) (by norm_num) k,
    ← halves c fun n => Ideal.exp (Cert.ReferenceIdeal.Row.logits x w (ix2 r n)),
    ← halves c fun n => if n = k then Cert.ReferenceIdeal.Row.logits x w (ix2 r n) else 0]
  simp only [logit_eq m x w hx hw, hit_eq]

end Result

end Cert.Value

end
-- ==== Proof.lean ====
/-
# Cross entropy over a vocabulary cut over devices: the claims

Each claim from its program's run.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Value
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts

/-- The printed kernel ends with its arguments unchanged and every counter at zero. -/
theorem kernel_frame : Cert.quiescent_Kernel := fun m g _ =>
  θ_run_mono (Cert.Kernel.Swap.run_all m g) fun _ h => ⟨fun c => ⟨(h.1 c).1, (h.1 c).2.1, (h.1 c).2.2.1⟩, h.2⟩

/-- So does the kernel over the extended reals. -/
theorem ideal_frame (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
        ∧ r.2.sem = fun _ => 0) :=
  θ_run_mono (Cert.KernelIdeal.Swap.run_all m g) fun _ h => ⟨fun c => ⟨(h.1 c).1, (h.1 c).2.1, (h.1 c).2.2.1⟩, h.2⟩

/-- The reference, a program of host lines without a semaphore, ends with its arguments unchanged. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  θ_run_mono (Cert.ReferenceIdeal.Value.run m g) fun r h => ⟨fun c => (h c).2, sem_eq_zero_of_no_sems (by decide) r.2⟩

attribute [local instance] Cert.Value.pre_kernel Cert.Value.pre_reference

/-- Over the extended reals, from finite activations and weights and labels in range, every device of the kernel ends with
    the reference's result. -/
theorem same_loss : Cert.algebraic_KernelIdeal_ReferenceIdeal_pre_finite_and_in_range_KernelIdeal := fun m g m' g' h hargs =>
  ⟨_, θ_run_mono (Cert.KernelIdeal.Swap.run_all m g) fun _ r c =>
      ⟨(r.1 c).2.2.2.trans (Cert.Value.result_eq m h _ _ _ (fun d => (hargs d).1) (fun d => (hargs d).2.1) (fun d => (hargs d).2.2) c),
        (r.1 c).1, (r.1 c).2.1, (r.1 c).2.2.1⟩,
    θ_run_mono (Cert.ReferenceIdeal.Value.run m' g') fun _ r => r 0⟩

theorem claim : Cert.Claim := ⟨Cert.Kernel.Gen.facts, Cert.KernelIdeal.Gen.facts, Cert.ReferenceIdeal.Gen.facts,
  Cert.Value.pre_kernel, Cert.Value.pre_reference,
  kernel_frame, fun m g _ => ideal_frame m g, fun m g _ => ideal_frame m g, fun m g _ => reference_frame m g,
  fun m g _ => reference_frame m g, trivial, same_loss⟩

end Cert.Proof

end
